-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![1024, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S1x512 : Shape := ⟨2, ![1, 512]⟩
abbrev S2 : Shape := ⟨1, ![2]⟩
abbrev S1 : Shape := ⟨1, ![1]⟩
abbrev S_ : Shape := ⟨0, ![]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .hbm, ⟨2, _⟩ => ⟨S1x512, .f32⟩
  | .hbm, ⟨3, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .f32⟩
  | .local _ .vmem, ⟨4, _⟩ => ⟨S512x512, .i8⟩
  | .local _ .vmem, ⟨5, _⟩ => ⟨S512x512, .i8⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_18 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_17 : BitVec 32 := 4#32
  let v25 : BitVec 32 := Scalar.muli v9 c4_i32_17
  let v26 : BitVec 32 := Scalar.addi c0_i32_18 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v27 : BitVec 32 := Scalar.muli v5 c2_i32_19
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v29 : BitVec 32 := Scalar.muli v8 c1_i32_20
  let v30 : BitVec 32 := Scalar.addi v28 v29
  v30.toNat
def k0_dev2 (d0 : Dev nD) : Nat :=
  let c0_i32_36 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_35 : BitVec 32 := 4#32
  let v48 : BitVec 32 := Scalar.muli v9 c4_i32_35
  let v49 : BitVec 32 := Scalar.addi c0_i32_36 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v50 : BitVec 32 := Scalar.muli v5 c2_i32_37
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_38 : BitVec 32 := 1#32
  let v52 : BitVec 32 := Scalar.muli v8 c1_i32_38
  let v53 : BitVec 32 := Scalar.addi v51 v52
  v53.toNat
def k0_dev3 (d0 : Dev nD) : Nat :=
  let c0_i32_58 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_57 : BitVec 32 := 4#32
  let v77 : BitVec 32 := Scalar.muli v9 c4_i32_57
  let v78 : BitVec 32 := Scalar.addi c0_i32_58 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v79 : BitVec 32 := Scalar.muli v5 c2_i32_59
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v81 : BitVec 32 := Scalar.muli v8 c1_i32_60
  let v82 : BitVec 32 := Scalar.addi v80 v81
  v82.toNat
-- ==== ReferenceIdeal.lean ====
abbrev S2x512x512 : Shape := ⟨3, ![2, 512, 512]⟩
abbrev S512x512 : Shape := ⟨2, ![512, 512]⟩
abbrev S1x512 : Shape := ⟨2, ![1, 512]⟩
abbrev S_ : Shape := ⟨0, ![]⟩
abbrev S1x512x512 : Shape := ⟨3, ![1, 512, 512]⟩
abbrev S2x512 : Shape := ⟨2, ![2, 512]⟩
abbrev S2x512x1 : Shape := ⟨3, ![2, 512, 1]⟩
abbrev S1x1x512 : Shape := ⟨3, ![1, 1, 512]⟩
abbrev S1024x512 : Shape := ⟨2, ![1024, 512]⟩

abbrev nBuf : Space → Nat
  | .hbm => 52
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S512x512, .f32⟩
  | .hbm, ⟨2, _⟩ => ⟨S1x512, .f32⟩
  | .hbm, ⟨3, _⟩ => ⟨S_, .f32⟩
  | .hbm, ⟨4, _⟩ => ⟨S2x512x512, .f32⟩
  | .hbm, ⟨5, _⟩ => ⟨S2x512x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x512x512, .f32⟩
  | .hbm, ⟨10, _⟩ => ⟨S2x512x512, .f32⟩
  | .hbm, ⟨11, _⟩ => ⟨S_, .f32⟩
  | .hbm, ⟨12, _⟩ => ⟨S2x512x512, .f32⟩
  | .hbm, ⟨13, _⟩ => ⟨S2x512x512, .f32⟩
  | .hbm, ⟨14, _⟩ => ⟨S2x512x512, .f32⟩
  | .hbm, ⟨15, _⟩ => ⟨S2x512x512, .i32⟩
  | .hbm, ⟨16, _⟩ => ⟨S2x512x512, .f32⟩
  | .hbm, ⟨17, _⟩ => ⟨S_, .f32⟩
  | .hbm, ⟨18, _⟩ => ⟨S2x512x512, .f32⟩
  | .hbm, ⟨19, _⟩ => ⟨S2x512x512, .f32⟩
  | .hbm, ⟨20, _⟩ => ⟨S1x512x512, .f32⟩
  | .hbm, ⟨21, _⟩ => ⟨S512x512, .f32⟩
  | .hbm, ⟨22, _⟩ => ⟨S1x512x512, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S1x512x512, .f32⟩
  | .hbm, ⟨27, _⟩ => ⟨S512x512, .f32⟩
  | .hbm, ⟨28, _⟩ => ⟨S1x512x512, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S1x512x512, .f32⟩
  | .hbm, ⟨33, _⟩ => ⟨S1x512x512, .f32⟩
  | .hbm, ⟨34, _⟩ => ⟨S2x512x512, .f32⟩
  | .hbm, ⟨35, _⟩ => ⟨S2x512x512, .f32⟩
  | .hbm, ⟨36, _⟩ => ⟨S_, .f32⟩
  | .hbm, ⟨37, _⟩ => ⟨S2x512, .f32⟩
  | .hbm, ⟨38, _⟩ => ⟨S2x512x1, .f32⟩
  | .hbm, ⟨39, _⟩ => ⟨S_, .f32⟩
  | .hbm, ⟨40, _⟩ => ⟨S2x512x1, .f32⟩
  | .hbm, ⟨41, _⟩ => ⟨S2x512x1, .f32⟩
  | .hbm, ⟨42, _⟩ => ⟨S_, .f32⟩
  | .hbm, ⟨43, _⟩ => ⟨S2x512x1, .f32⟩
  | .hbm, ⟨44, _⟩ => ⟨S2x512x1, .f32⟩
  | .hbm, ⟨45, _⟩ => ⟨S2x512x1, .f32⟩
  | .hbm, ⟨46, _⟩ => ⟨S2x512x512, .f32⟩
  | .hbm, ⟨47, _⟩ => ⟨S2x512x512, .f32⟩
  | .hbm, ⟨48, _⟩ => ⟨S1x1x512, .f32⟩
  | .hbm, ⟨49, _⟩ => ⟨S2x512x512, .f32⟩
  | .hbm, ⟨50, _⟩ => ⟨S2x512x512, .f32⟩
  | .hbm, ⟨51, _⟩ => ⟨S1024x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Proof.Protocol.lean ====
/-
The exchange between a device and its partner along the mesh's first axis: the cells it runs on, what each cell's one
round hands over, what each device owes at launch, and the levels its waits are ordered by.

A device holds five cells that its partner (or its own transfer) credits: the barrier semaphore, and for each half of the
block a send and a receive semaphore. The barrier unit a device receives carries the partner's landing buffer, both
halves; a receive cell's credit carries the half landed, at the codes of the partner's half; a send cell's credit carries
the device's own send buffer back. The six remaining semaphores are for transfers within the device.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The certificate's algebra: the launch library's rounds, the exchange's rounds, and the counters of the transfers
    within a device. -/
abbrev UU : Type := UR sig nD τ × (UR sig nD τ × Counters)

local notation "𝕄" => MT nD τ sig Unit (Elt F) ℕ UU ℕ

abbrev EP : Emb (UR sig nD τ) (MT nD τ sig Unit (Elt F) ℕ UU ℕ) := embL
def ER : Emb (UR sig nD τ) (MT nD τ sig Unit (Elt F) ℕ UU ℕ) :=
  (Emb.inl : Emb (UR sig nD τ) (UR sig nD τ × Counters)).trans embR
omit [FloatOps F] in
instance ER_landsIn : (ER : Emb (UR sig nD τ) 𝕄).LandsIn (upEmb : UEmb _ 𝕄) := by unfold ER; infer_instance

/-! ## The partner -/

/-- The partner of device `(x, y, z)` of the 2 × 2 × 2 mesh (logical id `4x + 2y + z`) is `(1 - x, y, z)`. -/
def peer (c : Dev nD) : Dev nD :=
  ⟨(2 * ((c.val / 2) % 2) + c.val % 2 + 4) - 4 * (c.val / 4), by
    have := c.isLt; revert this; generalize c.val = v; decide +revert⟩

theorem peer_peer (c : Dev nD) : peer (peer c) = c := by revert c; decide

/-- The partner as a permutation of the devices. -/
def swap : Dev nD ≃ Dev nD := ⟨peer, peer, peer_peer, peer_peer⟩

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

/-! ## Halves, buffers and cells -/

/-- Rows 0..255 and rows 256..511 of a 512 × 512 buffer. -/
abbrev topR : Rect S512x512 := Rect.unit (s := S512x512) ![0, 0] S256x512.size inb_S512x512_S256x512_0_0
abbrev botR : Rect S512x512 := Rect.unit (s := S512x512) ![256, 0] S256x512.size inb_S512x512_S256x512_256_0

abbrev sndM : Memref sig .tc .vmem S512x512 .i8 := Memref.whole cc0_scratch4
abbrev rcvM : Memref sig .tc .vmem S512x512 .i8 := Memref.whole cc0_scratch5
abbrev sndT : Memref sig .tc .vmem S256x512 .i8 := sndM.slice topR (fun _ => rfl)
abbrev sndB : Memref sig .tc .vmem S256x512 .i8 := sndM.slice botR (fun _ => rfl)
abbrev rcvT : Memref sig .tc .vmem S256x512 .i8 := rcvM.slice topR (fun _ => rfl)
abbrev rcvB : Memref sig .tc .vmem S256x512 .i8 := rcvM.slice botR (fun _ => rfl)

/-- Semaphore 0 and semaphore 1 of an array of two. -/
abbrev sem0 (a : DmaSems sig S2) : DmaSem sig :=
  ((a.slice (Rect.unit (s := S2) ![0] S1.size inb_S2_S1_0)).squeeze S_ squeezes_S1_S_).sem
abbrev sem1 (a : DmaSems sig S2) : DmaSem sig :=
  ((a.slice (Rect.unit (s := S2) ![1] S1.size inb_S2_S1_1)).squeeze S_ squeezes_S1_S_).sem

/-- The runtime's barrier semaphore. -/
abbrev barS : Sem sig := (SemArray.scalar (sig.barrier 0 rfl) : Sems sig S_).sem

abbrev barCell (c : Dev nD) : GSem nD τ sig := ((c : Thread nD τ), .reg barS)
abbrev sndTCell (c : Dev nD) : GSem nD τ sig := ((c : Thread nD τ), .dma (sem0 cc0_scratch9))
abbrev sndBCell (c : Dev nD) : GSem nD τ sig := ((c : Thread nD τ), .dma (sem1 cc0_scratch9))
abbrev rcvTCell (c : Dev nD) : GSem nD τ sig := ((c : Thread nD τ), .dma (sem0 cc0_scratch10))
abbrev rcvBCell (c : Dev nD) : GSem nD τ sig := ((c : Thread nD τ), .dma (sem1 cc0_scratch10))

/-- The five exchange semaphores of a device. -/
abbrev csem : Fin 5 → SemLoc sig := fun
  | 0 => .reg barS | 1 => .dma (sem0 cc0_scratch9) | 2 => .dma (sem1 cc0_scratch9)
  | 3 => .dma (sem0 cc0_scratch10) | 4 => .dma (sem1 cc0_scratch10)
abbrev kcell (ck : Dev nD × Fin 5) : GSem nD τ sig := ((ck.1 : Thread nD τ), csem ck.2)

theorem csem_injective : Function.Injective csem := by decide

/-- Which of the five a semaphore is. -/
def which (s : SemLoc sig) : Option (Fin 5) := if h : ∃ k, csem k = s then some (Fin.find (fun k => csem k = s) h) else none
theorem which_csem (k : Fin 5) : which (csem k) = some k := by
  have h : ∃ j, csem j = csem k := ⟨k, rfl⟩
  unfold which; rw [dif_pos h]
  exact congrArg some (csem_injective (Fin.find_spec h))

/-- The credit of one half's transfer. -/
abbrev N : ℕ := (rcvT : Memref sig .tc .vmem S256x512 .i8).view.dmaCredit
theorem N_pos : 0 < N := View.dmaCredit_pos _ (by decide)
theorem N_bot : (rcvB : Memref sig .tc .vmem S256x512 .i8).view.dmaCredit = N := rfl

/-! ## Contents -/

section Contents
variable (m : (ℓ : Loc nD τ sig) → Buf (Elt F) ℓ)

abbrev xM : Memref sig .tc .hbm S1x512x512 .f32 := Memref.whole main_arg0
abbrev xT : Memref sig .tc .hbm S256x512 .f32 :=
  (xM.slice (Rect.unit (s := S1x512x512) ![0, 0, 0] S1x256x512.size inb_S1x512x512_S1x256x512_0_0_0) (fun _ => rfl)).squeeze
    S256x512 squeezes_S1x256x512_S256x512
abbrev xB : Memref sig .tc .hbm S256x512 .f32 :=
  (xM.slice (Rect.unit (s := S1x512x512) ![0, 256, 0] S1x256x512.size inb_S1x512x512_S1x256x512_0_256_0) (fun _ => rfl)).squeeze
    S256x512 squeezes_S1x256x512_S256x512

/-- The halves of device `c`'s partial sums. -/
def xTop (c : Dev nD) : Vec F S256x512 .f32 := xT.view.read (Elt F) (m ((c : Thread nD τ).loc main_arg0))
def xBot (c : Dev nD) : Vec F S256x512 .f32 := xB.view.read (Elt F) (m ((c : Thread nD τ).loc main_arg0))

/-- A half of device `c`'s landing buffer, and one holding `v`. -/
def landT (c : Dev nD) (v : Vec F S256x512 .i8) : sProp 𝕄 :=
  iprop(∃ f : Buf (Elt F) (rcvT.view.loc (c : Thread nD τ)), ⌜rcvT.view.read (Elt F) f = v⌝ ∗ (rcvT.view.loc (c : Thread nD τ) ↦[rcvT.view.set]{fullShare} f))
def landB (c : Dev nD) (v : Vec F S256x512 .i8) : sProp 𝕄 :=
  iprop(∃ f : Buf (Elt F) (rcvB.view.loc (c : Thread nD τ)), ⌜rcvB.view.read (Elt F) f = v⌝ ∗ (rcvB.view.loc (c : Thread nD τ) ↦[rcvB.view.set]{fullShare} f))
def freeT (c : Dev nD) : sProp 𝕄 :=
  iprop(∃ f : Buf (Elt F) (rcvT.view.loc (c : Thread nD τ)), (rcvT.view.loc (c : Thread nD τ) ↦[rcvT.view.set]{fullShare} f))
def freeB (c : Dev nD) : sProp 𝕄 :=
  iprop(∃ f : Buf (Elt F) (rcvB.view.loc (c : Thread nD τ)), (rcvB.view.loc (c : Thread nD τ) ↦[rcvB.view.set]{fullShare} f))
def backT (c : Dev nD) : sProp 𝕄 :=
  iprop(∃ f : Buf (Elt F) (sndT.view.loc (c : Thread nD τ)), (sndT.view.loc (c : Thread nD τ) ↦[sndT.view.set]{fullShare} f))
def backB (c : Dev nD) : sProp 𝕄 :=
  iprop(∃ f : Buf (Elt F) (sndB.view.loc (c : Thread nD τ)), (sndB.view.loc (c : Thread nD τ) ↦[sndB.view.set]{fullShare} f))

/-- What the one round of each of `c`'s five cells hands over. -/
def pay (c : Dev nD) : Fin 5 → sProp 𝕄 := fun
  | 0 => iprop(freeT (peer c) ∗ freeB (peer c))
  | 1 => backT c
  | 2 => backB c
  | 3 => landT c (k0_pay1 (xTop m (peer c)))
  | 4 => landB c (k0_pay2 (xBot m (peer c)))

instance landT_storable (c : Dev nD) (v) : BI.Storable (upEmb : UEmb _ 𝕄) (landT (F := F) c v) := by unfold landT; infer_instance
instance landB_storable (c : Dev nD) (v) : BI.Storable (upEmb : UEmb _ 𝕄) (landB (F := F) c v) := by unfold landB; infer_instance
instance freeT_storable (c : Dev nD) : BI.Storable (upEmb : UEmb _ 𝕄) (freeT (F := F) c) := by unfold freeT; infer_instance
instance freeB_storable (c : Dev nD) : BI.Storable (upEmb : UEmb _ 𝕄) (freeB (F := F) c) := by unfold freeB; infer_instance
instance backT_storable (c : Dev nD) : BI.Storable (upEmb : UEmb _ 𝕄) (backT (F := F) c) := by unfold backT; infer_instance
instance backB_storable (c : Dev nD) : BI.Storable (upEmb : UEmb _ 𝕄) (backB (F := F) c) := by unfold backB; infer_instance
instance pay_storable (c : Dev nD) (k : Fin 5) : BI.Storable (upEmb : UEmb _ 𝕄) (pay m c k) := by
  fin_cases k <;> (dsimp only [pay]; infer_instance)

/-! ## The schedule -/

/-- Each of the five cells of each device has one round of one duty: one unit at the barrier, a half's credit elsewhere. -/
def sched : Rounds.Schedule (GSem nD τ sig) Unit 𝕄 where
  duties g r := if r = 0 ∧ g.1.2 = .tc ∧ (which g.2).isSome then {()} else ∅
  unitless _ := False
  amount g _ _ := if which g.2 = some 0 then 1 else N
  payload g _ _ := match which g.2 with
    | some k => pay m g.1.1 k
    | none => iprop(emp)
  amount_pos g _ _ _ := by
    split
    · exact Nat.one_pos
    · exact N_pos

instance sched_payload_storable (g : GSem nD τ sig) (r : ℕ) (d : Unit) :
    BI.Storable (upEmb : UEmb _ 𝕄) ((sched (F := F) m).payload g r d) := by
  show BI.Storable upEmb (match which g.2 with | some k => pay m g.1.1 k | none => iprop(emp))
  split <;> infer_instance

theorem duties_cell (c : Dev nD) (k : Fin 5) : (sched (F := F) m).duties (kcell (c, k)) 0 = {()} := by
  dsimp only [sched]; exact if_pos ⟨rfl, rfl, by rw [which_csem]; rfl⟩
theorem mem_cell (c : Dev nD) (k : Fin 5) : () ∈ (sched (F := F) m).duties (kcell (c, k)) 0 := by
  rw [duties_cell]; exact Finset.mem_singleton_self _
theorem duties_later (g : GSem nD τ sig) : ∀ r, 1 ≤ r → (sched (F := F) m).duties g r = ∅ :=
  fun r hr => by dsimp only [sched]; exact if_neg fun h => by omega
theorem amount_bar (c : Dev nD) : (sched (F := F) m).amount (kcell (c, 0)) 0 () = 1 := by
  dsimp only [sched]; rw [which_csem]; exact if_pos rfl
theorem amount_half (c : Dev nD) (k : Fin 5) (hk : k ≠ 0) : (sched (F := F) m).amount (kcell (c, k)) 0 () = N := by
  dsimp only [sched]; rw [which_csem]; exact if_neg fun h => hk (Option.some.inj h)
theorem payload_cell (c : Dev nD) (k : Fin 5) : (sched (F := F) m).payload (kcell (c, k)) 0 () = pay m c k := by
  dsimp only [sched]; rw [which_csem]
theorem expect_bar (c : Dev nD) : (sched (F := F) m).expect (kcell (c, 0)) 0 = 1 := by
  unfold Schedule.expect Schedule.amountOf; rw [duties_cell, Finset.sum_singleton, amount_bar]
theorem expect_half (c : Dev nD) (k : Fin 5) (hk : k ≠ 0) : (sched (F := F) m).expect (kcell (c, k)) 0 = N := by
  unfold Schedule.expect Schedule.amountOf; rw [duties_cell, Finset.sum_singleton, amount_half m c k hk]
theorem rest_cell (c : Dev nD) (k : Fin 5) :
    bigSep ((sched (F := F) m).duties (kcell (c, k)) 0 \ ∅) (fun u => (sched (F := F) m).payload (kcell (c, k)) 0 u) = pay m c k := by
  rw [Finset.sdiff_empty, duties_cell, bigSep_singleton, payload_cell]

end Contents

/-! ## What each device owes at launch; the levels -/

/-- Device `c` owes its partner's two receive cells a half's credit each and its barrier cell one unit. -/
def owed₂ (c : Dev nD) : CellTallies nD τ sig Unit := tallyAt (rcvBCell (peer c)) () N + tallyAt (rcvTCell (peer c)) () N
def O₀ (c : Dev nD) : CellTallies nD τ sig Unit := owed₂ c + tallyAt (barCell (peer c)) () 1

def L (g : GSem nD τ sig) : Finset Unit := if g.1.2 = .tc then {()} else ∅
/-- The barrier at level 1, the receive cells at 2, everything else at 0. -/
def lv (g : GSem nD τ sig) (_ : Unit) : ℕ :=
  match which g.2 with
  | some 0 => 1 | some 3 => 2 | some 4 => 2 | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 5) (u : Unit) : lv (kcell (c, k)) u = match k with | 0 => 1 | 3 => 2 | 4 => 2 | _ => 0 := by
  unfold lv; rw [which_csem]; fin_cases k <;> rfl

theorem tallyAt_pos {g g' : GSem nD τ sig} {n : ℕ} {u : Unit} (h : 0 < (tallyAt g' () n : CellTallies nD τ sig Unit) g u) : g = g' := by
  rw [tallyAt_apply] at h; by_contra hn; rw [if_neg fun h' => hn h'.1] at h; exact Nat.lt_irrefl 0 h
theorem add_pos_of {O O' : CellTallies nD τ sig Unit} {g : GSem nD τ sig} {u : Unit} (h : 0 < (O + O') g u) :
    0 < O g u ∨ 0 < O' g u := by
  rw [Pi.add_apply, Finsupp.add_apply] at h; omega

/-- A wait is in order when its cell's level is below that of every cell owed to. -/
theorem wait_below {c : Dev nD} {sm : SemLoc sig} {O : CellTallies nD τ sig Unit} (n : ℕ) (hsm : lv ((c : Thread nD τ), sm) () ≤ n)
    (hO : ∀ g u, 0 < O g u → ∃ d k, g = kcell (d, k) ∧ n < lv (kcell (d, k)) ()) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by obtain ⟨d, k, rfl, -⟩ := hO g u hg; exact Finset.mem_singleton_self _)
    (fun p hp => by rw [Finset.mem_singleton.mp hp]; exact hsm)
    (fun g u hg => by obtain ⟨d, k, rfl, h⟩ := hO g u hg; exact h)

theorem owedB_cells {c : Dev nD} {g : GSem nD τ sig} {u : Unit}
    (h : 0 < (tallyAt (rcvBCell (peer c)) () N : CellTallies nD τ sig Unit) g u) : ∃ d k, g = kcell (d, k) ∧ 1 < lv (kcell (d, k)) () := by
  have := tallyAt_pos h; subst this
  exact ⟨peer c, 4, rfl, by rw [lv_cell]; exact Nat.one_lt_two⟩
theorem owed₂_cells {c : Dev nD} {g : GSem nD τ sig} {u : Unit} (h : 0 < owed₂ c g u) : ∃ d k, g = kcell (d, k) ∧ 1 < lv (kcell (d, k)) () := by
  rcases add_pos_of h with h | h
  · exact owedB_cells h
  · have := tallyAt_pos h; subst this
    exact ⟨peer c, 3, rfl, by rw [lv_cell]; exact Nat.one_lt_two⟩

theorem mayWait_bar (c : Dev nD) : (levAts L lv : sProp 𝕄) ⊢ MayWait (c : Thread nD τ) (.reg barS) () (owed₂ c) :=
  wait_below 1 (by rw [show ((c : Thread nD τ), SemLoc.reg barS) = kcell (c, 0) from rfl, lv_cell]; exact Nat.le_refl 1) fun g u h => owed₂_cells h
/-- Waiting for a transfer within the device while both receive credits, or the second one, are owed. -/
theorem mayWait_local (c : Dev nD) (s : DmaSem sig) (hs : which (.dma s) = none) :
    (levAts L lv : sProp 𝕄) ⊢ MayWait (c : Thread nD τ) (.dma s) () (owed₂ c) :=
  wait_below 1 (by unfold lv; rw [hs]; exact Nat.zero_le _) fun g u h => owed₂_cells h
theorem mayWait_local' (c : Dev nD) (s : DmaSem sig) (hs : which (.dma s) = none) :
    (levAts L lv : sProp 𝕄) ⊢ MayWait (c : Thread nD τ) (.dma s) () (tallyAt (rcvBCell (peer c)) () N) :=
  wait_below 1 (by unfold lv; rw [hs]; exact Nat.zero_le _) fun g u h => owedB_cells h

end Cert.Swap

end
-- ==== Proof.Steps.lean ====
/-
The steps of the exchange that one device makes: the barrier unit, the two transfers, the waits.
-/
module

public import proofs.«01_k».proof.Proof.Protocol
public import Idealize.ShloMosaic.Lib.Pipeline.ReadBack

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-- The invariants device `c`'s body opens: its own five cells', and its partner's three it credits. -/
def invs (K : Dev nD × Fin 5 → ℕ) (c : Dev nD) : sProp 𝕄 :=
  iprop(cellInv ER (sched m) (K (c, 0)) (barCell c) ∗ cellInv ER (sched m) (K (c, 1)) (sndTCell c) ∗ cellInv ER (sched m) (K (c, 2)) (sndBCell c)
    ∗ cellInv ER (sched m) (K (c, 3)) (rcvTCell c) ∗ cellInv ER (sched m) (K (c, 4)) (rcvBCell c)
    ∗ cellInv ER (sched m) (K (peer c, 0)) (barCell (peer c)) ∗ cellInv ER (sched m) (K (peer c, 3)) (rcvTCell (peer c))
    ∗ cellInv ER (sched m) (K (peer c, 4)) (rcvBCell (peer c)))
instance invs_persistent (K : Dev nD × Fin 5 → ℕ) (c : Dev nD) : BI.Persistent (invs m K c) := by unfold invs; infer_instance

/-- The rounds of those cells have been reached. -/
def marks (c : Dev nD) : sProp 𝕄 :=
  iprop(reached ER (barCell (peer c)) 0 ∗ reached ER (rcvTCell (peer c)) 0 ∗ reached ER (rcvBCell (peer c)) 0
    ∗ reached ER (sndTCell c) 0 ∗ reached ER (sndBCell c) 0)
instance marks_persistent (c : Dev nD) : BI.Persistent (marks (F := F) c) := by unfold marks; infer_instance

/-- The duties device `c` pays: its partner's barrier and receive cells', and its own send cells'. -/
def payToks (c : Dev nD) : sProp 𝕄 :=
  iprop(dutyTok ER (barCell (peer c)) 0 () ∗ dutyTok ER (rcvTCell (peer c)) 0 () ∗ dutyTok ER (rcvBCell (peer c)) 0 ()
    ∗ dutyTok ER (sndTCell c) 0 () ∗ dutyTok ER (sndBCell c) 0 ())
/-- Its positions at its own five cells. -/
def places (c : Dev nD) : sProp 𝕄 :=
  iprop(atPos ER (barCell c) 0 ∅ 0 ∗ atPos ER (sndTCell c) 0 ∅ 0 ∗ atPos ER (sndBCell c) 0 ∅ 0
    ∗ atPos ER (rcvTCell c) 0 ∅ 0 ∗ atPos ER (rcvBCell c) 0 ∅ 0)
def ghost (K : Dev nD × Fin 5 → ℕ) (c : Dev nD) : sProp 𝕄 := iprop(invs m K c ∗ marks c ∗ payToks c ∗ places c)

/-- The counters of the six semaphores for transfers within the device, at zero. -/
def sems (c : Dev nD) : sProp 𝕄 :=
  iprop(semVal ((c : Thread nD τ), .dma (sem0 cc0_scratch6)) 0 ∗ semVal ((c : Thread nD τ), .dma (sem1 cc0_scratch6)) 0
    ∗ semVal ((c : Thread nD τ), .dma (sem0 cc0_scratch7)) 0 ∗ semVal ((c : Thread nD τ), .dma (sem1 cc0_scratch7)) 0
    ∗ semVal ((c : Thread nD τ), .dma (sem0 cc0_scratch8)) 0 ∗ semVal ((c : Thread nD τ), .dma (sem1 cc0_scratch8)) 0)

/-- The buffer `b` of device `c`, whole, at `f`; at some contents. -/
abbrev at_ (c : Dev nD) (b : Ref sig .tc) (f : Buf (Elt F) ((c : Thread nD τ).loc b)) : sProp 𝕄 :=
  ((Memref.whole b).view.loc (c : Thread nD τ) ↦{fullShare} f)
abbrev some_ (c : Dev nD) (b : Ref sig .tc) : sProp 𝕄 := iprop(∃ f : Buf (Elt F) ((c : Thread nD τ).loc b), at_ c b f)

/-- The arrays of `@main` as launched, the result's contents `f`. -/
def arrays (c : Dev nD) (f : Buf (Elt F) ((c : Thread nD τ).loc main_v1)) : sProp 𝕄 :=
  iprop(at_ c main_arg0 (m _) ∗ at_ c main_arg1 (m _) ∗ at_ c main_arg2 (m _) ∗ at_ c main_v1 f)

/-- The scratch buffers, the landing buffer in its halves. -/
def scratch (c : Dev nD) : sProp 𝕄 :=
  iprop(some_ (F := F) c cc0_scratch0 ∗ some_ (F := F) c cc0_scratch1 ∗ some_ (F := F) c cc0_scratch2 ∗ some_ (F := F) c cc0_scratch3
    ∗ some_ (F := F) c cc0_scratch4 ∗ freeT c ∗ freeB c)

/-! ## What the devices compute -/

/-- The halves of the residual, and the scale row. -/
def resT (c : Dev nD) : Vec F S256x512 .f32 :=
  fun x => (Memref.whole main_arg1).view.read (Elt F) (m ((c : Thread nD τ).loc main_arg1)) (topR.emb x)
def resB (c : Dev nD) : Vec F S256x512 .f32 :=
  fun x => (Memref.whole main_arg1).view.read (Elt F) (m ((c : Thread nD τ).loc main_arg1)) (botR.emb x)
def gam (c : Dev nD) : Vec F S1x512 .f32 := (Memref.whole main_arg2).view.read (Elt F) (m ((c : Thread nD τ).loc main_arg2))
/-- The halves of device `c`'s result. -/
def outT (c : Dev nD) : Vec F S256x512 .f32 :=
  k0_pay4 (k0_pay3 (xTop m c) (k0_pay1 (xTop m (peer c))) (resT m c) (gam m c))
def outB (c : Dev nD) : Vec F S256x512 .f32 :=
  k0_pay7 (k0_pay5 (xBot m c) (k0_pay2 (xBot m (peer c))) (resB m c)) (k0_pay6 (xBot m c) (k0_pay2 (xBot m (peer c))) (resB m c)) (gam m c)
/-- The result array at the end: the two halves over what it held. -/
def outAt (c : Dev nD) : Buf (Elt F) ((c : Thread nD τ).loc main_v1) :=
  (Memref.whole main_v1).view.writes (Elt F) (m ((c : Thread nD τ).loc main_v1)) [⟨botR, outB m c⟩, ⟨topR, outT m c⟩]

/-- What is left of the semaphores: all at zero. -/
def cellsDone (c : Dev nD) : sProp 𝕄 :=
  iprop(semVal (barCell c) 0 ∗ semVal (sndTCell c) 0 ∗ semVal (sndBCell c) 0 ∗ semVal (rcvTCell c) 0 ∗ semVal (rcvBCell c) 0)
/-- The scratch buffers, whole, at some contents. -/
def scratchDone (c : Dev nD) : sProp 𝕄 :=
  iprop(some_ (F := F) c cc0_scratch0 ∗ some_ (F := F) c cc0_scratch1 ∗ some_ (F := F) c cc0_scratch2 ∗ some_ (F := F) c cc0_scratch3
    ∗ some_ (F := F) c cc0_scratch4 ∗ some_ (F := F) c cc0_scratch5)
/-- What the body leaves. -/
def post (c : Dev nD) : sProp 𝕄 :=
  iprop(arrays m c (outAt m c) ∗ scratchDone (F := F) c ∗ sems (F := F) c ∗ cellsDone (F := F) c ∗ ∃ W', owes (c : Thread nD τ) 0 W')

theorem pay_bar (c : Dev nD) : pay m c 0 = iprop(freeT (peer c) ∗ freeB (peer c)) := rfl

theorem pay_sndT (c : Dev nD) : pay m c 1 = backT c := rfl
theorem pay_sndB (c : Dev nD) : pay m c 2 = backB c := rfl
theorem pay_rcvT (c : Dev nD) : pay m c 3 = landT c (k0_pay1 (xTop m (peer c))) := rfl
theorem pay_rcvB (c : Dev nD) : pay m c 4 = landB c (k0_pay2 (xBot m (peer c))) := rfl

theorem all_cell (c : Dev nD) (k : Fin 5) :
    bigSep ((sched (F := F) m).duties (kcell (c, k)) 0) (fun u => (sched (F := F) m).payload (kcell (c, k)) 0 u) = pay m c k := by
  rw [duties_cell, bigSep_singleton, payload_cell]

/-- The unit to the partner's barrier cell, with this device's landing buffer. -/
theorem wp_bar (K : Dev nD × Fin 5 → ℕ) (c n : Dev nD) (hn : n = peer c) {α : Type} {Q : α → sProp 𝕄}
    {k : PUnit → Prog (TpuEff nD τ sig (Elt F) Λ₀ .tc) α} {W : Waits sig Unit} :
    iprop(cellInv ER (sched m) (K (peer c, 0)) (barCell (peer c)) ∗ owes (c : Thread nD τ) (O₀ c) W
        ∗ dutyTok ER (barCell (peer c)) 0 () ∗ (freeT c ∗ freeB c) ∗ reached ER (barCell (peer c)) 0)
      ⊢ iprop((owes (c : Thread nD τ) (owed₂ c) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS (1#32).toInt) k) Q) := by
  subst hn
  have hp : iprop(freeT (F := F) c ∗ freeB c) = (sched m).payload (barCell (peer c)) 0 () :=
    ((payload_cell m (peer c) 0).trans (by rw [pay_bar, peer_peer])).symm
  rw [hp]
  exact Rounds.wp_signal 𝒱₀ ER (sched m) (c : Thread nD τ) none (dst := (peer c : Thread nD τ)) (κ := K (peer c, 0))
    (mem_cell m (peer c) 0) ((amount_bar m (peer c)).trans (by decide)) () (owed₂ c) rfl

/-- The transfer of the upper half to the partner. -/
theorem wp_sendT (K : Dev nD × Fin 5 → ℕ) (c n : Dev nD) (hn : n = peer c)
    {hsc : (rcvT : Memref sig (Dev.tc n : Thread nD τ).2.kind .vmem S256x512 .i8).view.ref.isScScratch = false}
    {hsrc : sndT.view.WordExact} {hdst : rcvT.view.WordExact}
    {hsem : DmaTarget.Typed .vmem (.dma (sem0 cc0_scratch10)) (.remote (Dev.tc n : Thread nD τ) rcvT (.dma (sem0 cc0_scratch9)) hsc)}
    {α : Type} {Q : α → sProp 𝕄} {k : PUnit → Prog (TpuEff nD τ sig (Elt F) Λ₀ .tc) α} (W : Waits sig Unit)
    (fs : Buf (Elt F) (sndT.view.loc (c : Thread nD τ))) (hfs : sndT.view.read (Elt F) fs = k0_pay1 (xTop m c)) :
    iprop(cellInv ER (sched m) (K (c, 1)) (sndTCell c) ∗ cellInv ER (sched m) (K (peer c, 3)) (rcvTCell (peer c))
        ∗ (sndT.view.loc (c : Thread nD τ) ↦[sndT.view.set]{fullShare} fs) ∗ freeT (peer c) ∗ owes (c : Thread nD τ) (owed₂ c) W
        ∗ dutyTok ER (sndTCell c) 0 () ∗ reached ER (sndTCell c) 0 ∗ dutyTok ER (rcvTCell (peer c)) 0 () ∗ reached ER (rcvTCell (peer c)) 0)
      ⊢ iprop(((cred (tallyAt (sndTCell c) () N) ∗ owes (c : Thread nD τ) (tallyAt (rcvBCell (peer c)) () N) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sndT (.remote (Dev.tc n : Thread nD τ) rcvT (.dma (sem0 cc0_scratch9)) hsc) (.dma (sem0 cc0_scratch10)) hsrc hdst hsem) k) Q) := by
  subst hn
  unfold freeT
  iintro ⟨H1, H2, H3, ⟨%fd, H4⟩, H5⟩
  iapply (Rounds.wp_send_pointsTo 𝒱₀ ER (sched m) (c : Thread nD τ) none (κ₁ := K (c, 1)) (κ₂ := K (peer c, 3))
    (r₁ := 0) (r₂ := 0) (d₁ := ()) (d₂ := ()) (fs := fs) (fd := fd)
    (mem_cell m c 1) (mem_cell m (peer c) 3)
    () () N rfl (amount_half m c 1 (by decide)) (amount_half m (peer c) 3 (by decide)) (tallyAt (rcvBCell (peer c)) () N) rfl (W := W)
    (by rw [show (sched m).payload (sndTCell c) 0 () = backT c from payload_cell m c 1]
        unfold backT; iintro H; iexists fs; iexact H)
    (by rw [show (sched m).payload (rcvTCell (peer c)) 0 () = landT (peer c) (k0_pay1 (xTop m (peer (peer c)))) from payload_cell m (peer c) 3, peer_peer]
        unfold landT; iintro H; iexists (rcvT.view.write (Elt F) fd (sndT.view.read (Elt F) fs) Finset.univ); isplitr
        · ipureintro; exact (View.read_write_univ _ _).trans hfs
        · iexact H))
  isplitl [H1]; · iexact H1
  isplitl [H2]; · iexact H2
  isplitl [H3]; · iexact H3
  isplitl [H4]; · iexact H4
  iexact H5

/-- The transfer of the lower half to the partner. -/
theorem wp_sendB (K : Dev nD × Fin 5 → ℕ) (c n : Dev nD) (hn : n = peer c)
    {hsc : (rcvB : Memref sig (Dev.tc n : Thread nD τ).2.kind .vmem S256x512 .i8).view.ref.isScScratch = false}
    {hsrc : sndB.view.WordExact} {hdst : rcvB.view.WordExact}
    {hsem : DmaTarget.Typed .vmem (.dma (sem1 cc0_scratch10)) (.remote (Dev.tc n : Thread nD τ) rcvB (.dma (sem1 cc0_scratch9)) hsc)}
    {α : Type} {Q : α → sProp 𝕄} {k : PUnit → Prog (TpuEff nD τ sig (Elt F) Λ₀ .tc) α} (W : Waits sig Unit)
    (fs : Buf (Elt F) (sndB.view.loc (c : Thread nD τ))) (hfs : sndB.view.read (Elt F) fs = k0_pay2 (xBot m c)) :
    iprop(cellInv ER (sched m) (K (c, 2)) (sndBCell c) ∗ cellInv ER (sched m) (K (peer c, 4)) (rcvBCell (peer c))
        ∗ (sndB.view.loc (c : Thread nD τ) ↦[sndB.view.set]{fullShare} fs) ∗ freeB (peer c)
        ∗ owes (c : Thread nD τ) (tallyAt (rcvBCell (peer c)) () N) W
        ∗ dutyTok ER (sndBCell c) 0 () ∗ reached ER (sndBCell c) 0 ∗ dutyTok ER (rcvBCell (peer c)) 0 () ∗ reached ER (rcvBCell (peer c)) 0)
      ⊢ iprop(((cred (tallyAt (sndBCell c) () N) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sndB (.remote (Dev.tc n : Thread nD τ) rcvB (.dma (sem1 cc0_scratch9)) hsc) (.dma (sem1 cc0_scratch10)) hsrc hdst hsem) k) Q) := by
  subst hn
  unfold freeB
  iintro ⟨H1, H2, H3, ⟨%fd, H4⟩, H5⟩
  iapply (Rounds.wp_send_pointsTo 𝒱₀ ER (sched m) (c : Thread nD τ) none (κ₁ := K (c, 2)) (κ₂ := K (peer c, 4))
    (r₁ := 0) (r₂ := 0) (d₁ := ()) (d₂ := ()) (fs := fs) (fd := fd)
    (mem_cell m c 2) (mem_cell m (peer c) 4)
    () () N rfl (amount_half m c 2 (by decide)) (amount_half m (peer c) 4 (by decide)) 0 (by rw [zero_add]) (W := W)
    (by rw [show (sched m).payload (sndBCell c) 0 () = backB c from payload_cell m c 2]
        unfold backB; iintro H; iexists fs; iexact H)
    (by rw [show (sched m).payload (rcvBCell (peer c)) 0 () = landB (peer c) (k0_pay2 (xBot m (peer (peer c)))) from payload_cell m (peer c) 4, peer_peer]
        unfold landB; iintro H; iexists (rcvB.view.write (Elt F) fd (sndB.view.read (Elt F) fs) Finset.univ); isplitr
        · ipureintro; exact (View.read_write_univ _ _).trans hfs
        · iexact H))
  isplitl [H1]; · iexact H1
  isplitl [H2]; · iexact H2
  isplitl [H3]; · iexact H3
  isplitl [H4]; · iexact H4
  iexact H5

/-- The wait for the barrier's unit: the partner's landing buffer comes with it. -/
theorem wp_waitBar (K : Dev nD × Fin 5 → ℕ) (c : Dev nD) {α : Type} {Q : α → sProp 𝕄}
    {k : PUnit → Prog (TpuEff nD τ sig (Elt F) Λ₀ .tc) α} (W : Waits sig Unit) :
    iprop(cellInv ER (sched m) (K (c, 0)) (barCell c) ∗ cred (tallyAt (barCell c) () 1) ∗ owes (c : Thread nD τ) (owed₂ c) W ∗ levAts L lv
        ∗ atPos ER (barCell c) 0 ∅ 0)
      ⊢ iprop(((∃ W', owes (c : Thread nD τ) (owed₂ c) W') ∗ atPos ER (barCell c) 1 ∅ 0 ∗ freeT (peer c) ∗ freeB (peer c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (1#32).toNat) k) Q) := by
  iintro ⟨#H1, H2, H3, #H4, H5⟩ Hk
  iapply (Rounds.wp_wait_rest_token 𝒱₀ ER (sched m) (c : Thread nD τ) none (κ := K (c, 0))
      (wpE_semWait_eq 𝒱₀ (c : Thread nD τ) none Set.univ) (Set.mem_univ _) () (O := owed₂ c) (W := W) (R := 0) (m := 0) (T := ∅)
      (by rw [show (sched m).expect (barCell c) 0 = 1 from expect_bar m c]; decide)) $$ [H2 H3 H5]
  · isplitr; · iexact H1
    isplitl [H2]; · iexact H2
    isplitl [H3]; · iexact H3
    isplitr; · iapply (mayWait_bar c); iexact H4
    iexact H5
  iintro ⟨HO, Hab, -, Hpay⟩
  ihave Hp := (Entails.of_eq ((rest_cell m c 0).trans (pay_bar m c))) $$ Hpay
  icases Hp with ⟨HfT, HfB⟩
  iapply Hk
  isplitl [HO]; · iexists _; iexact HO
  isplitl [Hab]; · iexact Hab
  isplitl [HfT] <;> iassumption

/-- A cell past its round is closed: its counter is at zero. -/
theorem close_cell (K : Dev nD × Fin 5 → ℕ) (c : Dev nD) (k : Fin 5) :
    iprop(cellInv ER (sched m) (K (c, k)) (kcell (c, k)) ∗ atPos ER (kcell (c, k)) 1 ∅ 0)
      ⊢ (|={Set.univ}=> semVal (kcell (c, k)) 0 : sProp 𝕄) :=
  Rounds.cell_close ER (sched m) (Set.mem_univ (K (c, k))) (fun h => h) (R := 0 + 1) (duties_later m (kcell (c, k)))

/-- A load of the whole scale row reads every element where it is. -/
theorem whole_idx (x : S1x512.Idx) : (Rect.unit (s := S1x512) ![0, 0] S1x512.size inb_S1x512_S1x512_0_0).emb x = x := by
  funext a
  apply Fin.ext
  rw [Rect.emb_apply]
  have h0 : (![0, 0] : Fin 2 → ℕ) a = 0 := by fin_cases a <;> rfl
  show (![0, 0] : Fin 2 → ℕ) a + 1 * (x a).val = (x a).val
  rw [h0, Nat.zero_add, Nat.one_mul]

/-! ## The two halves of a buffer -/

theorem mem_top (i : S512x512.Idx) : i ∈ topR.set ↔ (i 0).val < 256 := by
  rw [Rect.mem_set_unit]
  constructor
  · intro h; exact (h 0).2
  · intro h a
    refine a.cases ?_ fun b => ?_
    · exact ⟨Nat.zero_le _, h⟩
    · obtain rfl : b = 0 := Subsingleton.elim _ _
      exact ⟨Nat.zero_le _, (i 1).isLt⟩
theorem mem_bot (i : S512x512.Idx) : i ∈ botR.set ↔ 256 ≤ (i 0).val := by
  rw [Rect.mem_set_unit]
  constructor
  · intro h; exact (h 0).1
  · intro h a
    refine a.cases ?_ fun b => ?_
    · exact ⟨h, (i 0).isLt⟩
    · obtain rfl : b = 0 := Subsingleton.elim _ _
      exact ⟨Nat.zero_le _, (i 1).isLt⟩
theorem bot_eq : botR.set = Finset.univ \ topR.set := by
  ext i
  rw [mem_bot, Finset.mem_sdiff, mem_top]
  exact ⟨fun h => ⟨Finset.mem_univ _, Nat.not_lt.mpr h⟩, fun h => Nat.not_lt.mp h.2⟩

theorem sndB_eq : sndB.view.set = Finset.univ \ sndT.view.set :=
  (View.set_slice_whole _ _).trans (bot_eq.trans (congrArg _ (View.set_slice_whole _ _).symm))
theorem rcvB_eq : rcvB.view.set = Finset.univ \ rcvT.view.set :=
  (View.set_slice_whole _ _).trans (bot_eq.trans (congrArg _ (View.set_slice_whole _ _).symm))

/-- A whole buffer is its two halves; the halves, at whatever contents, are a whole buffer. -/
theorem snd_split (c : Dev nD) (f : Buf (Elt F) (sndT.view.loc (c : Thread nD τ))) :
    ((Memref.whole cc0_scratch4).view.loc (c : Thread nD τ) ↦{fullShare} f : sProp 𝕄)
      ⊢ iprop((sndT.view.loc (c : Thread nD τ) ↦[sndT.view.set]{fullShare} f) ∗ (sndB.view.loc (c : Thread nD τ) ↦[sndB.view.set]{fullShare} f)) := by
  rw [sndB_eq]; exact (pointsTo_split_subset (Finset.subset_univ _)).1
/-- The same of a buffer whose upper half has just been stored. -/
theorem snd_split_stored (c : Dev nD) (f : Buf (Elt F) (sndT.view.loc (c : Thread nD τ))) (v : Vec F S256x512 .i8) :
    ((Memref.whole cc0_scratch4).view.loc (c : Thread nD τ) ↦{fullShare} ((Memref.whole cc0_scratch4).view.writes (Elt F) f [⟨topR, v⟩]) : sProp 𝕄)
      ⊢ iprop(∃ fs : Buf (Elt F) (sndT.view.loc (c : Thread nD τ)), ⌜sndT.view.read (Elt F) fs = v⌝
        ∗ (sndT.view.loc (c : Thread nD τ) ↦[sndT.view.set]{fullShare} fs) ∗ (sndB.view.loc (c : Thread nD τ) ↦[sndB.view.set]{fullShare} fs)) := by
  iintro H
  ihave H2 := (snd_split c _) $$ H
  iexists _
  isplitr
  · ipureintro; exact View.read_write_univ (v := (sndM.access topR : View sig .tc _ _ _)) f v
  · iexact H2
theorem snd_join (c : Dev nD) : iprop(backT (F := F) c ∗ backB c) ⊢ (some_ c cc0_scratch4 : sProp 𝕄) := by
  unfold backT backB some_ at_
  rw [sndB_eq]
  iintro ⟨⟨%f, Hf⟩, ⟨%g, Hg⟩⟩
  iexists _
  iapply (pointsTo_join_subset (g := f) (f := g) (Finset.subset_univ _))
  isplitl [Hf] <;> iassumption
theorem rcv_split (c : Dev nD) : (some_ (F := F) c cc0_scratch5 : sProp 𝕄) ⊢ iprop(freeT (F := F) c ∗ freeB c) := by
  unfold freeT freeB some_ at_
  rw [rcvB_eq]
  iintro ⟨%f, Hf⟩
  ihave H := (pointsTo_split_subset (I := rcvT.view.set) (Finset.subset_univ _)).1 $$ Hf
  icases H with ⟨H1, H2⟩
  isplitl [H1] <;> (iexists f; iassumption)
theorem rcv_join (c : Dev nD) : iprop(freeT (F := F) c ∗ freeB c) ⊢ (some_ c cc0_scratch5 : sProp 𝕄) := by
  unfold freeT freeB some_ at_
  rw [rcvB_eq]
  iintro ⟨⟨%f, Hf⟩, ⟨%g, Hg⟩⟩
  iexists _
  iapply (pointsTo_join_subset (g := f) (f := g) (Finset.subset_univ _))
  isplitl [Hf] <;> iassumption

end Cert.Swap

end
-- ==== Proof.Body.lean ====
/-
One device's body, run once at a symbolic device.
-/
module

public import proofs.«01_k».proof.Proof.Steps

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option sl_exec.dmaWindow true
set_option maxHeartbeats 1000000 in
theorem body_run (K : Dev nD × Fin 5 → ℕ) (c : Dev nD) (W : Waits sig Unit) (Kt : PUnit → sProp 𝕄) :
    iprop((ghost m K c ∗ cred (tallyAt (barCell c) () 1) ∗ cred (tallyAt (rcvTCell c) () N) ∗ cred (tallyAt (rcvBCell c) () N) ∗ levAts L lv
        ∗ sems c ∗ arrays m c (m _) ∗ scratch c ∗ owes (c : Thread nD τ) (O₀ c) W) ∗ (post m c -∗ Kt ⟨⟩))
      ⊢ wp frame (wpE (defs₀ (F := F)) 𝒱₀ c none) Set.univ
          (cc0_body (Memref.whole main_arg0) (Memref.isWhole_whole _) (Memref.whole main_arg1) (Memref.isWhole_whole _) (Memref.whole main_arg2) (Memref.isWhole_whole _)
            (Memref.whole main_v1) (Memref.isWhole_whole _) (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _)
            (Memref.whole cc0_scratch5) (Memref.isWhole_whole _) cc0_scratch6 cc0_scratch7 cc0_scratch8 cc0_scratch9 cc0_scratch10) Kt := by
  simp only [cc0_body_eq_skeleton, k0_part1_eq_skeleton, k0_part2_eq_skeleton, k0_part3_eq_skeleton, k0_part4_eq_skeleton, k0_part5_eq_skeleton, k0_part6_eq_skeleton]
  unfold cc0_body_skel
  simp only [k0_part1_eq_skeleton, k0_part2_eq_skeleton, k0_part3_eq_skeleton, k0_part4_eq_skeleton, k0_part5_eq_skeleton, k0_part6_eq_skeleton]
  unfold k0_part1_skel
  simp only [semSignalWord, semWaitWord, Prog.lift, Prog.bind_op, Prog.bind_ret, Prog.pure_eq_ret, wp_deviceId]
  unfold ghost invs marks payToks places sems arrays scratch at_ some_ at_
  iintro ⟨⟨⟨⟨#HIb, #HIsT, #HIsB, #HIrT, #HIrB, #HIpb, #HIprT, #HIprB⟩, ⟨#Hmb, #HmrT, #HmrB, #HmsT, #HmsB⟩, ⟨Htb, HtrT, HtrB, HtsT, HtsB⟩,
    ⟨Hab, HasT, HasB, HarT, HarB⟩⟩, Hcb, HcrT, HcrB, #Hlev, ⟨Hv0, Hv1, Hv2, Hv3, Hv4, Hv5⟩, ⟨Hx, Hr, Hg, Hy⟩,
    ⟨⟨%f0, Hs0⟩, ⟨%f1, Hs1⟩, ⟨%f2, Hs2⟩, ⟨%f3, Hs3⟩, ⟨%f4, Hs4⟩, HfT, HfB⟩, HO⟩, Hk⟩
  have hw0 := mayWait_local (F := F) c (sem0 cc0_scratch6) (by decide)
  have hw1 := mayWait_local' (F := F) c (sem1 cc0_scratch6) (by decide)
  sl_exec
  -- the barrier unit to the partner, with this device's landing buffer
  iapply (wp_bar m K c _ (dev1_eq c)) $$ [HO Htb HfT HfB]
  · isplitr; · iexact HIpb
    isplitl [HO]; · iexact HO
    isplitl [Htb]; · iexact Htb
    isplitl [HfT HfB]
    · isplitl [HfT] <;> iassumption
    · iexact Hmb
  iintro HO
  sl_exec
  iapply (wp_waitBar m K c W) $$ [Hcb HO Hab]
  · isplitr; · iexact HIb
    isplitl [Hcb]; · iexact Hcb
    isplitl [HO]; · iexact HO
    isplitr; · iexact Hlev
    iexact Hab
  iintro ⟨⟨%W1, HO⟩, Hab, HfT, HfB⟩
  sl_exec
  ihave H4 := (snd_split_stored c _ _) $$ Hs4
  icases H4 with ⟨%fs, %hfs, Hs4, Hs4'⟩
  have e36 : body_run.sl.v36 m c = xTop m c := by
    unfold body_run.sl.v36
    rw [View.readCov_skip _ _ _ _ _ (by decide), View.readCov_cons_toLoadRect]
    rfl
  rw [e36] at hfs
  iapply (wp_sendT m K c _ (dev2_eq c) _ fs hfs) $$ [Hs4 HfT HO HtsT HtrT]
  · isplitr; · iexact HIsT
    isplitr; · iexact HIprT
    isplitl [Hs4]; · iexact Hs4
    isplitl [HfT]; · iexact HfT
    isplitl [HO]; · iexact HO
    isplitl [HtsT]; · iexact HtsT
    isplitr; · iexact HmsT
    isplitl [HtrT]; · iexact HtrT
    iexact HmrT
  iintro ⟨HcsT, HO⟩
  sl_exec
  have e65 : body_run.sl.v65 m c = xBot m c := by
    unfold body_run.sl.v65
    rw [View.readCov_cons_toLoadRect]
    rfl
  have hfs' : sndB.view.read (Elt F) (body_run.sl.Hs4'_w1 m c fs) = k0_pay2 (xBot m c) := by
    rw [← e65]
    unfold body_run.sl.Hs4'_w1
    exact View.read_write_univ (v := (sndM.access botR : View sig .tc _ _ _)) _ _
  iapply (wp_sendB m K c _ (dev3_eq c) _ _ hfs') $$ [Hs4' HfB HO HtsB HtrB]
  · isplitr; · iexact HIsB
    isplitr; · iexact HIprB
    isplitl [Hs4']; · iexact Hs4'
    isplitl [HfB]; · iexact HfB
    isplitl [HO]; · iexact HO
    isplitl [HtsB]; · iexact HtsB
    isplitr; · iexact HmsB
    isplitl [HtrB]; · iexact HtrB
    iexact HmrB
  iintro ⟨HcsB, HO⟩
  sl_exec
  ihave Hp := (Entails.of_eq ((all_cell m c 3).trans (pay_rcvT m c))) $$ HarT_pay1
  unfold landT
  icases Hp with ⟨%gT, %hgT, HlT⟩
  sl_exec
  ihave Hp := (Entails.of_eq ((all_cell m c 4).trans (pay_rcvB m c))) $$ HarB_pay1
  unfold landB
  icases Hp with ⟨%gB, %hgB, HlB⟩
  sl_exec
  have hgT' : View.readAt (Elt F) (Memref.whole cc0_scratch5).view topR.toLoadRect gT = k0_pay1 (xTop m (peer c)) := hgT
  have hgB' : View.readAt (Elt F) (Memref.whole cc0_scratch5).view botR.toLoadRect gB = k0_pay2 (xBot m (peer c)) := hgB
  have e109 : body_run.sl.v109 m c f1 = resT m c := by
    unfold body_run.sl.v109
    funext x
    exact congrFun (View.read_write_univ (v := (Memref.whole cc0_scratch1).view) _ _) _
  have e147 : body_run.sl.v147 m c f1 = resB m c := by
    unfold body_run.sl.v147
    funext x
    exact congrFun (View.read_write_univ (v := (Memref.whole cc0_scratch1).view) _ _) _
  have e121 : body_run.sl.v121 m c f2 = gam m c := by
    unfold body_run.sl.v121
    funext x
    exact (congrFun (View.read_write_univ (v := (Memref.whole cc0_scratch2).view) _ _) _).trans (congrArg _ (whole_idx x))
  have e159 : body_run.sl.v159 m c f2 = gam m c := by
    unfold body_run.sl.v159
    funext x
    exact (congrFun (View.read_write_univ (v := (Memref.whole cc0_scratch2).view) _ _) _).trans (congrArg _ (whole_idx x))
  have e5 : body_run.sl.dma5 m c f1 f2 f3 gT = outT m c := by
    unfold body_run.sl.dma5 body_run.sl.Hs3_1
    refine (View.read_write_univ (v := ((Memref.whole cc0_scratch3).access topR : View sig .tc _ _ _)) _ _).trans ?_
    dsimp only
    unfold body_run.sl.r
    rw [e109, e121, hgT']
    rfl
  have e51 : body_run.sl.dma5_1 m c f1 f2 f3 gT gB = outB m c := by
    unfold body_run.sl.dma5_1 body_run.sl.Hs3_2
    refine (View.read_write_univ (v := ((Memref.whole cc0_scratch3).access botR : View sig .tc _ _ _)) _ _).trans ?_
    unfold body_run.sl.r_1 body_run.sl.r_2
    dsimp only
    rw [e147, e159, hgB']
    rfl
  ihave HpT := (Entails.of_eq ((all_cell m c 1).trans (pay_sndT m c))) $$ HasT_pay1
  ihave HpB := (Entails.of_eq ((all_cell m c 2).trans (pay_sndB m c))) $$ HasB_pay1
  imod (close_cell m K c 0) $$ [Hab] with Hz0
  · isplitr; · iexact HIb
    iexact Hab
  imod (close_cell m K c 1) $$ [HasT] with Hz1
  · isplitr; · iexact HIsT
    iexact HasT
  imod (close_cell m K c 2) $$ [HasB] with Hz2
  · isplitr; · iexact HIsB
    iexact HasB
  imod (close_cell m K c 3) $$ [HarT] with Hz3
  · isplitr; · iexact HIrT
    iexact HarT
  imod (close_cell m K c 4) $$ [HarB] with Hz4
  · isplitr; · iexact HIrB
    iexact HarB
  rw [wp_ret]; imodintro
  iapply Hk
  unfold post arrays scratchDone cellsDone sems
  isplitl [Hx Hr Hg Hy]
  · isplitl [Hx]; · iexact Hx
    isplitl [Hr]; · iexact Hr
    isplitl [Hg]; · iexact Hg
    unfold outAt
    rw [← e5, ← e51]
    iexact Hy
  isplitl [Hs0 Hs1 Hs2 Hs3 HpT HpB HlT HlB]
  · isplitl [Hs0]; · iexists _; iexact Hs0
    isplitl [Hs1]; · iexists _; iexact Hs1
    isplitl [Hs2]; · iexists _; iexact Hs2
    isplitl [Hs3]; · iexists _; iexact Hs3
    isplitl [HpT HpB]
    · iapply (snd_join c)
      isplitl [HpT]; · iexact HpT
      iexact HpB
    · iapply (rcv_join c)
      isplitl [HlT]
      · unfold freeT; iexists gT; iexact HlT
      · unfold freeB; iexists gB; iexact HlB
  isplitl [Hv0 Hv1 Hv2 Hv3 Hv4 Hv5]
  · isplitl [Hv0]; · iexact Hv0
    isplitl [Hv1]; · iexact Hv1
    isplitl [Hv2]; · iexact Hv2
    isplitl [Hv3]; · iexact Hv3
    isplitl [Hv4]; · iexact Hv4
    iexact Hv5
  isplitl [Hz0 Hz1 Hz2 Hz3 Hz4]
  · isplitl [Hz0]; · iexact Hz0
    isplitl [Hz1]; · iexact Hz1
    isplitl [Hz2]; · iexact Hz2
    isplitl [Hz3]; · iexact Hz3
    iexact Hz4
  iexists _; iexact HO

end Cert.Swap

end
-- ==== Proof.Launch.lean ====
/-
From one device's body to the run of all eight: the invariants of the forty exchange cells are made at launch, every
device is dealt the tokens of the duties it pays, and the credit for what its partner owes it.
-/
module

public import proofs.«01_k».proof.Proof.Body
public import Idealize.ShloMosaic.Lib.Pipeline.CollectiveSegs

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The one point of the call -/

/-- A device's credit for what its partner owes its cells. -/
def dues (c : Dev nD) : sProp 𝕄 :=
  iprop(cred (tallyAt (barCell c) () 1) ∗ cred (tallyAt (rcvTCell c) () N) ∗ cred (tallyAt (rcvBCell c) () N))
/-- What a device starts from beside its scratch buffers. -/
def start (c : Dev nD) : sProp 𝕄 :=
  iprop((∃ K, ghost m K c) ∗ dues (F := F) c ∗ levAts L lv ∗ sems (F := F) c ∗ arrays m c (m _))
def before (c : Dev nD) : sProp 𝕄 := iprop(start m c ∗ scratch (F := F) c)
def after (c : Dev nD) : sProp 𝕄 := iprop(arrays m c (outAt m c) ∗ scratchDone (F := F) c ∗ sems (F := F) c ∗ cellsDone (F := F) c)

def dats (_ : Fin 1) (c : Dev nD) : Dat τ (Elt F) Unit ℕ UU ℕ cfg0 c where
  A w := w.elim0
  after w _ := w.elim0
  Φ t := match t with
    | ⟨0, _⟩ => before m c
    | ⟨_ + 1, _⟩ => after m c
  q _ := fullShare
  owed t := match t with
    | ⟨0, _⟩ => O₀ c
    | ⟨_ + 1, _⟩ => 0

/-- The library's obligation for the body, from the body's run. -/
theorem body_obligation (c : Dev nD) : BodyObligation (dats (F := F) m 0 c) (defs₀ (F := F)) 𝒱₀ () Set.univ := fun t => by
  rw [fin_N0 t]
  show iprop(before m c ∗ (dats m 0 c).owesAt () (t0_0).castSucc ∗ _)
    ⊢ wp frame (wpE (defs₀ (F := F)) 𝒱₀ (c : Thread nD τ) none) Set.univ _
      (fun _ => iprop(after m c ∗ (dats m 0 c).owesAt () (t0_0).succ ∗ _))
  unfold before start dues
  iintro ⟨⟨⟨⟨%K, Hg⟩, ⟨H1, H2, H3⟩, Hlev, Hs, Ha⟩, Hscr⟩, Ho, Hw⟩
  unfold Dat.owesAt Pipeline.owesWithin
  icases Ho with ⟨%W, %hW, HO⟩
  iapply (body_run m K c W _)
  isplitr [Hw]
  · isplitl [Hg]; · iexact Hg
    isplitl [H1]; · iexact H1
    isplitl [H2]; · iexact H2
    isplitl [H3]; · iexact H3
    isplitl [Hlev]; · iexact Hlev
    isplitl [Hs]; · iexact Hs
    isplitl [Ha]; · iexact Ha
    isplitl [Hscr]; · iexact Hscr
    iexact HO
  · unfold post
    iintro ⟨Ha, Hscr, Hs, Hc, ⟨%W', HO⟩⟩
    isplitl [Ha Hscr Hs Hc]
    · unfold after
      isplitl [Ha]; · iexact Ha
      isplitl [Hscr]; · iexact Hscr
      isplitl [Hs]; · iexact Hs
      iexact Hc
    isplitl [HO]
    · iexists W'
      isplitr; · (ipureintro; exact fun _ _ => Or.inl trivial)
      iexact HO
    iexact Hw

/-! ## The exchange cells, all devices -/

/-- The kernel's ten transfer semaphores: six for transfers within the device, four of the exchange. -/
abbrev osem : Fin 10 → SemLoc sig := fun
  | 0 => .dma (sem0 cc0_scratch6) | 1 => .dma (sem1 cc0_scratch6) | 2 => .dma (sem0 cc0_scratch7) | 3 => .dma (sem1 cc0_scratch7)
  | 4 => .dma (sem0 cc0_scratch8) | 5 => .dma (sem1 cc0_scratch8)
  | 6 => .dma (sem0 cc0_scratch9) | 7 => .dma (sem1 cc0_scratch9) | 8 => .dma (sem0 cc0_scratch10) | 9 => .dma (sem1 cc0_scratch10)
theorem ownSemFacts : Pipeline.OwnSemFacts cfg0.spec osem := by decide

theorem kcell_injective : Function.Injective (kcell : Dev nD × Fin 5 → GSem nD τ sig) := fun a b h =>
  Prod.ext (congrArg (fun g : GSem nD τ sig => g.1.1) h) (csem_injective (congrArg Prod.snd h))

def swapCells : Finset (GSem nD τ sig) := Finset.univ.map ⟨kcell, kcell_injective⟩
def swapToks : Finset (GSem nD τ sig × ℕ × Unit) :=
  Finset.univ.map ⟨fun ck : Dev nD × Fin 5 => (kcell ck, 0, ()), fun _ _ h => kcell_injective (congrArg Prod.fst h)⟩
def u₀ : UU := (initOf (Pipeline.cells cfgs cellOf_inj) (Pipeline.launchToks cfgs cellOf_inj), (initOf swapCells swapToks, 1))

/-- The tokens of the duties at device `c`'s own cells, before they are dealt. -/
def toks (c : Dev nD) : sProp 𝕄 := bigSep Finset.univ fun k : Fin 5 => dutyTok ER (kcell (c, k)) 0 ()
/-- What each device takes from the launch element, and what the global step makes of it. -/
def G (c : Dev nD) : sProp 𝕄 :=
  iprop((bigSep Finset.univ fun k : Fin 5 => roundState ER (sched m) (kcell (c, k)) 0)
    ∗ (bigSep Finset.univ fun k : Fin 5 => atPos ER (kcell (c, k)) 0 ∅ 0)
    ∗ (bigSep Finset.univ fun k : Fin 5 => reached ER (kcell (c, k)) 0) ∗ toks (F := F) c)
def G' (c : Dev nD) : sProp 𝕄 := iprop((∃ K, ghost m K c) ∗ sems (F := F) c)

theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- A family over the cells, device by device. -/
theorem over_cells (Φ : GSem nD τ sig → sProp 𝕄) :
    bigSep swapCells Φ = bigSep Finset.univ fun c : Dev nD => bigSep Finset.univ fun k : Fin 5 => Φ (kcell (c, k)) := by
  unfold swapCells; rw [bigSep_map, bigSep_univ_prod]; rfl
theorem over_toks :
    bigSep swapToks (fun x => (dutyTok ER x.1 x.2.1 x.2.2 : sProp 𝕄)) = bigSep Finset.univ fun c : Dev nD => toks (F := F) c := by
  unfold swapToks; rw [bigSep_map, bigSep_univ_prod]; rfl

theorem fund_swap : BI.own (ER (initOf swapCells swapToks)) ⊢ (|==> bigSep Finset.univ (G m) : sProp 𝕄) := by
  have h := Rounds.fund (ER (F := F)) (sched m) swapCells swapToks
  rw [over_cells, over_cells, over_cells, over_toks] at h
  unfold G
  simp only [bigSep_sep']
  iintro H
  imod h $$ H with ⟨Hst, Hr, Hat, Htok⟩
  imodintro
  isplitl [Hst]; · iexact Hst
  isplitl [Hat]; · iexact Hat
  isplitl [Hr] <;> iassumption

/-- A device's own semaphores: the six, and the exchange's four; the barrier is the launch's one unscoped semaphore. -/
theorem ownSems0_eq (c : Dev nD) :
    (Pipeline.ownSems0 (Ix := Unit) (Name := ℕ) (U := UU) (Lvl := ℕ) (Val := Elt F) (τ := τ) osem c : sProp 𝕄)
      = iprop(semVal ((c : Thread nD τ), osem 0) 0 ∗ semVal ((c : Thread nD τ), osem 1) 0 ∗ semVal ((c : Thread nD τ), osem 2) 0
          ∗ semVal ((c : Thread nD τ), osem 3) 0 ∗ semVal ((c : Thread nD τ), osem 4) 0 ∗ semVal ((c : Thread nD τ), osem 5) 0
          ∗ semVal (sndTCell c) 0 ∗ semVal (sndBCell c) 0 ∗ semVal (rcvTCell c) 0 ∗ semVal (rcvBCell c) 0) := by
  rw [Pipeline.ownSems0_eq_of_list c osem [0, 1, 2, 3, 4, 5, 6, 7, 8, 9] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 5 => semVal (kcell (c, k)) 0) ∗ sems (F := F) c) : sProp 𝕄) := by
  rw [ownSems0_eq, unscopedSems0_eq, five]
  unfold sems
  iintro ⟨⟨H0, H1, H2, H3, H4, H5, H6, H7, H8, H9⟩, HB⟩
  isplitl [H6 H7 H8 H9 HB]
  · isplitl [HB]; · iexact HB
    isplitl [H6]; · iexact H6
    isplitl [H7]; · iexact H7
    isplitl [H8] <;> iassumption
  isplitl [H0]; · iexact H0
  isplitl [H1]; · iexact H1
  isplitl [H2]; · iexact H2
  isplitl [H3]; · iexact H3
  isplitl [H4] <;> iassumption

/-- A device's five cells get their invariants, each at some name. -/
theorem make_invs (c : Dev nD) :
    iprop((bigSep Finset.univ fun k : Fin 5 => semVal (kcell (c, k)) 0) ∗ bigSep Finset.univ fun k : Fin 5 => roundState ER (sched m) (kcell (c, k)) 0)
      ⊢ (|={Set.univ}=> bigSep Finset.univ fun k : Fin 5 => iprop(∃ κ : ℕ, cellInv ER (sched m) κ (kcell (c, k))) : sProp 𝕄) := by
  rw [← bigSep_sep']
  exact (bigSep_mono fun k _ => (Rounds.body_intro ER (sched m) (kcell (c, k))).trans inv_alloc).trans (bigSep_fupd _ _)

/-- What one device has once its invariants are made. -/
def made (c : Dev nD) : sProp 𝕄 :=
  iprop((bigSep Finset.univ fun k : Fin 5 => iprop(∃ κ : ℕ, cellInv ER (sched m) κ (kcell (c, k))))
    ∗ (bigSep Finset.univ fun k : Fin 5 => reached ER (kcell (c, k)) 0)
    ∗ (bigSep Finset.univ fun k : Fin 5 => atPos ER (kcell (c, k)) 0 ∅ 0) ∗ toks (F := F) c ∗ sems (F := F) c)

theorem make (c : Dev nD) :
    iprop(Pipeline.ownSems0 (Ix := Unit) (Name := ℕ) (U := UU) (Lvl := ℕ) (Val := Elt F) (τ := τ) osem c ∗ unscopedSems0 c ∗ G m c)
      ⊢ (|={Set.univ}=> made m c : sProp 𝕄) := by
  unfold G made
  iintro ⟨Hos, Hus, Hst, Hat, Hr, Htok⟩
  ihave Hv := (sems_split (F := F) c) $$ [Hos Hus]
  · isplitl [Hos] <;> iassumption
  icases Hv with ⟨Hv, Hs⟩
  imod (make_invs m c) $$ [Hv Hst] with Hinv
  · isplitl [Hv] <;> iassumption
  imodintro
  isplitl [Hinv]; · iexact Hinv
  isplitl [Hr]; · iexact Hr
  isplitl [Hat]; · iexact Hat
  isplitl [Htok] <;> iassumption

/-- The invariants of all cells at the names `K`, and that their rounds have been reached. -/
def records (K : Dev nD × Fin 5 → ℕ) : sProp 𝕄 :=
  iprop((bigSep Finset.univ fun ck : Dev nD × Fin 5 => cellInv ER (sched m) (K ck) (kcell ck))
    ∗ bigSep Finset.univ fun ck : Dev nD × Fin 5 => reached ER (kcell ck) 0)
instance records_persistent (K : Dev nD × Fin 5 → ℕ) : BI.Persistent (records m K) := by unfold records; infer_instance

theorem inv_of_all (K : Dev nD × Fin 5 → ℕ) (ck : Dev nD × Fin 5) :
    (bigSep Finset.univ fun ck : Dev nD × Fin 5 => (cellInv ER (sched m) (K ck) (kcell ck) : sProp 𝕄)) ⊢ cellInv ER (sched m) (K ck) (kcell ck) :=
  bigSep_elim (Finset.mem_univ ck)
theorem reached_of_all (ck : Dev nD × Fin 5) :
    (bigSep Finset.univ fun ck : Dev nD × Fin 5 => (reached ER (kcell ck) 0 : sProp 𝕄)) ⊢ reached ER (kcell ck) 0 :=
  bigSep_elim (Finset.mem_univ ck)
theorem records_inv (K : Dev nD × Fin 5 → ℕ) (ck : Dev nD × Fin 5) : records m K ⊢ cellInv ER (sched m) (K ck) (kcell ck) := by
  unfold records
  iintro ⟨H, -⟩
  iapply (inv_of_all m K ck)
  iexact H
theorem records_reached (K : Dev nD × Fin 5 → ℕ) (ck : Dev nD × Fin 5) : records m K ⊢ reached ER (kcell ck) 0 := by
  unfold records
  iintro ⟨-, H⟩
  iapply (reached_of_all (F := F) ck)
  iexact H

/-- What is one device's alone. -/
def alone (c : Dev nD) : sProp 𝕄 := iprop(places (F := F) c ∗ payToks (F := F) c ∗ sems (F := F) c)

theorem ghost_intro (K : Dev nD × Fin 5 → ℕ) (c : Dev nD) : iprop(records m K ∗ alone c) ⊢ G' m c := by
  unfold alone G' ghost invs marks
  iintro ⟨#HR, Hp, Ht, Hs⟩
  isplitr [Hs]
  · iexists K
    isplitr
    · isplitr; · iapply (records_inv m K (c, 0)); iexact HR
      isplitr; · iapply (records_inv m K (c, 1)); iexact HR
      isplitr; · iapply (records_inv m K (c, 2)); iexact HR
      isplitr; · iapply (records_inv m K (c, 3)); iexact HR
      isplitr; · iapply (records_inv m K (c, 4)); iexact HR
      isplitr; · iapply (records_inv m K (peer c, 0)); iexact HR
      isplitr; · iapply (records_inv m K (peer c, 3)); iexact HR
      iapply (records_inv m K (peer c, 4)); iexact HR
    isplitr
    · isplitr; · iapply (records_reached m K (peer c, 0)); iexact HR
      isplitr; · iapply (records_reached m K (peer c, 3)); iexact HR
      isplitr; · iapply (records_reached m K (peer c, 4)); iexact HR
      isplitr; · iapply (records_reached m K (c, 1)); iexact HR
      iapply (records_reached m K (c, 2)); iexact HR
    isplitl [Ht] <;> iassumption
  · iexact Hs

/-- The tokens dealt: a device pays its partner's barrier and receive cells, and its own send cells. -/
theorem deal : (bigSep Finset.univ fun c : Dev nD => (toks (F := F) c : sProp 𝕄)) ⊢ bigSep Finset.univ fun c : Dev nD => payToks (F := F) c := by
  unfold toks payToks
  simp only [five, bigSep_sep']
  rw [bigSep_univ_equiv swap (fun c : Dev nD => (dutyTok ER (kcell (c, 0)) 0 () : sProp 𝕄)),
    bigSep_univ_equiv swap (fun c : Dev nD => (dutyTok ER (kcell (c, 3)) 0 () : sProp 𝕄)),
    bigSep_univ_equiv swap (fun c : Dev nD => (dutyTok ER (kcell (c, 4)) 0 () : sProp 𝕄))]
  iintro ⟨H0, H1, H2, H3, H4⟩
  isplitl [H0]; · iexact H0
  isplitl [H3]; · iexact H3
  isplitl [H4]; · iexact H4
  isplitl [H1]; · iexact H1
  iexact H2

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => made m c : sProp 𝕄) ⊢ bigSep Finset.univ (G' m) := by
  unfold made
  simp only [bigSep_sep']
  rw [← bigSep_univ_prod (fun ck : Dev nD × Fin 5 => iprop(∃ κ : ℕ, cellInv ER (sched m) κ (kcell ck))),
    ← bigSep_univ_prod (fun ck : Dev nD × Fin 5 => (reached ER (kcell ck) 0 : sProp 𝕄))]
  iintro ⟨HI, #HR, Hat, Htok, Hs⟩
  ihave HK := (BI.bigSep_exists_pi Finset.univ (fun (ck : Dev nD × Fin 5) (κ : ℕ) => (cellInv ER (sched m) κ (kcell ck) : sProp 𝕄))) $$ HI
  icases HK with ⟨%K, #HI⟩
  ihave Htk := (deal (F := F)) $$ Htok
  iapply (with_records (R := records m K) fun c _ => ghost_intro m K c)
  isplitr
  · unfold records; isplitl; · iexact HI
    iexact HR
  · unfold alone
    simp only [bigSep_sep']
    isplitl [Hat]
    · iapply (Entails.of_eq (bigSep_congr fun (c : Dev nD) _ => by unfold places; exact five (fun k => (atPos ER (kcell (c, k)) 0 ∅ 0 : sProp 𝕄)))); iexact Hat
    isplitl [Htk] <;> iassumption

/-- The global step. -/
theorem glob : (bigSep Finset.univ fun c => iprop(Pipeline.ownSems0 (Ix := Unit) (Name := ℕ) (U := UU) (Lvl := ℕ) (Val := Elt F) (τ := τ) osem c
        ∗ unscopedSems0 c ∗ G m c) : sProp 𝕄)
    ⊢ |={Set.univ}=> bigSep Finset.univ (G' m) :=
  ((bigSep_mono fun c _ => make m c).trans (bigSep_fupd _ _)).trans (BI.fupd_mono (regroup m))

/-! ## The launch credit -/

/-- What device `d` owes the cell `k` of device `c`: only the partner owes anything. -/
theorem owed_cell (d c : Dev nD) (k : Fin 5) :
    O₀ d (kcell (c, k)) () = if d = peer c then (match k with | 0 => 1 | 3 => N | 4 => N | _ => 0) else 0 := by
  have hk (j : Fin 5) (n : ℕ) : (tallyAt (kcell (peer d, j)) () n : CellTallies nD τ sig Unit) (kcell (c, k)) () = if d = peer c ∧ k = j then n else 0 := by
    rw [tallyAt_apply]
    refine if_congr ⟨fun h => ?_, fun h => ?_⟩ rfl rfl
    · have h2 := Prod.mk.inj (kcell_injective h.1)
      exact ⟨by rw [h2.1, peer_peer], h2.2⟩
    · exact ⟨by rw [h.1, h.2, peer_peer], rfl⟩
  have e : O₀ d (kcell (c, k)) () = ((if d = peer c ∧ k = 4 then N else 0) + (if d = peer c ∧ k = 3 then N else 0)) + (if d = peer c ∧ k = 0 then 1 else 0) := by
    rw [← hk 4 N, ← hk 3 N, ← hk 0 1]; rfl
  rw [e]
  by_cases h : d = peer c
  · simp only [h, true_and, if_true]
    fin_cases k <;> simp
  · simp only [h, false_and, if_false]

theorem launch_cell (c : Dev nD) (k : Fin 5) :
    tallyOn (kcell (c, k)) (launchCredit (Pipeline.owing O₀) 0 (kcell (c, k)))
      = (tallyAt (kcell (c, k)) () (match k with | 0 => 1 | 3 => N | 4 => N | _ => 0) : CellTallies nD τ sig Unit) := by
  unfold tallyAt; refine congrArg _ (Finsupp.ext fun u => ?_); cases u
  rw [Pipeline.launchCredit_owing, Finsupp.single_eq_same, Finset.sum_congr rfl fun d _ => owed_cell d c k,
    Finset.sum_ite_eq' Finset.univ (peer c) fun _ => _, if_pos (Finset.mem_univ _)]

theorem creds (c : Dev nD) : (Pipeline.launchCred O₀ c : sProp 𝕄) ⊢ dues (F := F) c := by
  have h3 : SemLoc.dma (sem0 cc0_scratch10) ∈ Finset.univ.erase (SemLoc.reg barS : SemLoc sig) :=
    Finset.mem_erase.mpr ⟨by decide, Finset.mem_univ _⟩
  have h4 : SemLoc.dma (sem1 cc0_scratch10) ∈ (Finset.univ.erase (SemLoc.reg barS : SemLoc sig)).erase (SemLoc.dma (sem0 cc0_scratch10)) :=
    Finset.mem_erase.mpr ⟨by decide, Finset.mem_erase.mpr ⟨by decide, Finset.mem_univ _⟩⟩
  have e0 := launch_cell c 0
  have e3 := launch_cell c 3
  have e4 := launch_cell c 4
  unfold Pipeline.launchCred dues
  rw [bigSep_univ_at _ (SemLoc.reg barS), ← Finset.insert_erase h3, bigSep_insert (Finset.notMem_erase _ _)]
  refine BI.sep_mono (Entails.of_eq (congrArg (fun t => (cred t : sProp 𝕄)) e0)) (BI.sep_mono (Entails.of_eq (congrArg (fun t => (cred t : sProp 𝕄)) e3)) ?_)
  exact (bigSep_elim h4).trans (Entails.of_eq (congrArg (fun t => (cred t : sProp 𝕄)) e4))

/-! ## The run -/

variable (ρ : Dev nD → PrngReg)

theorem scoped_eq (c : Dev nD) :
    (Pipeline.scopedRest (Ix := Unit) (Name := ℕ) (U := UU) (Lvl := ℕ) (Val := Elt F) cfg0.spec c : sProp 𝕄) = scratchDone (F := F) c := by
  rw [scopedRest0_eq]; rfl

theorem unscoped_eq (c : Dev nD) :
    (Pipeline.unscopedRestP (Ix := Unit) (Name := ℕ) (U := UU) (Lvl := ℕ) Pipeline.Prefetch.none cfg0.spec c (fun b => m ((c : Thread nD τ).loc b)) : sProp 𝕄)
      = arrays m c (m _) :=
  (unscopedRest0_eq (Ix := Unit) (Name := ℕ) (U := UU) (Lvl := ℕ) c (fun b => m ((c : Thread nD τ).loc b)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ emp) : sProp 𝕄) := by
  rw [unscoped_eq]
  unfold start G'
  iintro ⟨Ha, Hlev, Hcr, -, HG, Hs⟩
  ihave Hc := (creds (F := F) c) $$ Hcr
  imodintro
  isplitl
  · isplitl [HG]; · iexact HG
    isplitl [Hc]; · iexact Hc
    isplitl [Hlev]; · iexact Hlev
    isplitl [Hs] <;> iassumption
  · iempintro

theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scoped_eq]
  unfold before scratchDone scratch
  iintro ⟨Hs, -, H0, H1, H2, H3, H4, H5⟩
  ihave H5' := (rcv_split (F := F) c) $$ H5
  icases H5' with ⟨HT, HB⟩
  isplitl [Hs]; · iexact Hs
  isplitl [H0]; · iexact H0
  isplitl [H1]; · iexact H1
  isplitl [H2]; · iexact H2
  isplitl [H3]; · iexact H3
  isplitl [H4]; · iexact H4
  isplitl [HT] <;> iassumption

/-- What a device keeps after the call. -/
def kept (c : Dev nD) : sProp 𝕄 := iprop(arrays m c (outAt m c) ∗ unscopedSems0 c)

theorem after_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = after m c from rfl, scoped_eq, ownSems0_eq]
  unfold after kept sems cellsDone
  rw [unscopedSems0_eq]
  iintro ⟨Ha, Hscr, ⟨H0, H1, H2, H3, H4, H5⟩, HB, H6, H7, H8, H9⟩
  isplitl [Ha HB]
  · isplitl [Ha] <;> iassumption
  isplitr [Hscr]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8] <;> iassumption
  · iexact Hscr

theorem waits (c : Dev nD) : (levAts L lv : sProp 𝕄) ⊢ Pipeline.cellsWaits cfgs (dats m) () 0 c :=
  Pipeline.cellsWaits_intro cfgs (dats m) () 0 c fun w => w.elim0

/-- What the final memory holds of device `c`: its arguments unchanged, its result computed, its unscoped counters zero. -/
def Final (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v1) = outAt m c
    ∧ ∀ sm : SemLoc sig, sm.isScoped .tc = false → s.sem ((c.tc : Thread nD τ), sm) = 0

theorem read_at (c : Dev nD) (b : Ref sig .tc) (f : Buf (Elt F) ((c : Thread nD τ).loc b)) (s' : Phys nD τ sig (Elt F)) :
    iprop(at_ c b f ∗ SI s') ⊢ (iprop(⌜s'.mem.mem ((c : Thread nD τ).loc b) = f⌝ ∗ SI s') : sProp 𝕄) := by
  have h := pointsTo_read_all (Ix := Unit) (Name := ℕ) (U := UU) (Lvl := ℕ) (Val := Elt F) {()} (fun _ : Unit => (c : Thread nD τ).loc b) (fun _ => f) s'
  rw [bigSep_singleton] at h
  exact h.trans (sep_mono_left (Laws.pure_mono fun h => h () (Finset.mem_singleton_self _)))

theorem read_final (c : Dev nD) (s' : Phys nD τ sig (Elt F)) :
    iprop(kept m c ∗ emp ∗ SI s') ⊢ (|={Set.univ}=> iprop(⌜Final m c s'.mem⌝ ∗ SI s') : sProp 𝕄) := by
  unfold kept arrays
  iintro ⟨⟨⟨H0, H1, H2, H3⟩, Hu⟩, -, HSI⟩
  ihave H := (read_at (F := F) c main_arg0 _ s') $$ [H0 HSI]
  · isplitl [H0] <;> iassumption
  icases H with ⟨%h0, HSI⟩
  ihave H := (read_at (F := F) c main_arg1 _ s') $$ [H1 HSI]
  · isplitl [H1] <;> iassumption
  icases H with ⟨%h1, HSI⟩
  ihave H := (read_at (F := F) c main_arg2 _ s') $$ [H2 HSI]
  · isplitl [H2] <;> iassumption
  icases H with ⟨%h2, HSI⟩
  ihave H := (read_at (F := F) c main_v1 _ s') $$ [H3 HSI]
  · isplitl [H3] <;> iassumption
  icases H with ⟨%h3, HSI⟩
  imod (Pipeline.unscopedSems0_read (X := unscopedSems0 c) (c := c) fupd_intro s') $$ [Hu HSI] with ⟨%h4, HSI⟩
  · isplitl [Hu] <;> iassumption
  imodintro
  isplitr; · (ipureintro; exact ⟨h0, h1, h2, h3, h4⟩)
  iexact HSI

set_option maxRecDepth 8000 in
/-- On the 2 × 2 × 2 mesh, for any float values, from any memory with zero counters: every weakly fair execution of the
    program terminates, and every final state has each device's result at the computed contents, its arguments unchanged
    and every semaphore counter at zero. -/
theorem run_main :
    θ_run defs (onTc (τ := τ) (main (F := F))) ⟨m, fun _ => 0, ρ⟩ (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c)) (hne := fun w => w.elim0) (harr := arr_whole0) (hstage := stage_whole0)
    (hshare := fun _ w => w.elim0) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_pair_emb embR _ _) $$ HX
      icases HX' with ⟨HX, -⟩
      have hf : BI.own (((Emb.inl : Emb (UR sig nD τ) (UR sig nD τ × Counters)).trans embR) (initOf swapCells swapToks)) ⊢ (|==> bigSep Finset.univ (G m) : sProp 𝕄) := fund_swap m
      imod hf $$ HX with HG
      imodintro
      isplitl [HP] <;> iassumption)
    (hglob := glob m)
    (hA := fun _ w => w.elim0) (hpf := fun _ k => k.elim0)
    (X := start m) (Y := kept m) (Z := fun _ => iprop(emp))
    (hX := start_intro m ρ) (hin := before_intro m) (hout := after_exit m)
    (QY := Final m) (hY := read_final m)
    (hQ := fun _ h hs => ⟨fun c => (h c).2.2, sem_eq_zero hs fun c => (h c).2.2.2.2.2.2⟩)

end Cert.Swap

end
-- ==== Proof.Quant.lean ====
/-
  The int8 code of a value, as the kernel and the reference compute it over the extended reals: both clip the value over
  the step to [-127, 127], round it to an integer and convert. The kernel multiplies by 32 and converts to 8 bits, the
  reference divides by 1/32 and converts to 32 bits; the integer is the same, as it lies in [-127, 127].
-/
module

public import proofs.«01_k».proof.Proof.Steps
public import proofs.«01_k».proof.Proof.Gen.ReferenceIdeal.Run
public import Idealize.ShloMosaic.Lib.Pointwise

@[expose] public section

noncomputable section

namespace Cert.Swap

open Idealize.ShloMosaic

/-! ## The constants -/

theorem word_32 : Ideal.ofBits FTy.f32 1107296256#32 = ((32 : ℝ) : EReal) := by
  simp [Ideal.ofBits, Ideal.ieee, -EReal.coe_mul]; norm_num
theorem word_step : Ideal.ofBits FTy.f32 1023410176#32 = ((1 / 32 : ℝ) : EReal) := by
  simp [Ideal.ofBits, Ideal.ieee, -EReal.coe_mul]; norm_num
theorem word_hi : Ideal.ofBits FTy.f32 1123942400#32 = ((127 : ℝ) : EReal) := by
  simp [Ideal.ofBits, Ideal.ieee, -EReal.coe_mul]; norm_num
theorem word_lo : Ideal.ofBits FTy.f32 3271426048#32 = ((-127 : ℝ) : EReal) := by
  simp [Ideal.ofBits, Ideal.ieee, -EReal.coe_mul]; norm_num

/-! ## The clipped, rounded value -/

/-- A value clipped to [-127, 127] is a real there. -/
theorem clip_real (y : EReal) : ∃ r : ℝ, min ((127 : ℝ) : EReal) (max ((-127 : ℝ) : EReal) y) = (r : EReal) ∧ -127 ≤ r ∧ r ≤ 127 := by
  induction y with
  | bot => exact ⟨-127, by rw [max_eq_left bot_le]; exact min_eq_right (by exact_mod_cast (by norm_num : (-127 : ℝ) ≤ 127)), by norm_num, by norm_num⟩
  | top => exact ⟨127, by rw [max_eq_right le_top]; exact min_eq_left le_top, by norm_num, by norm_num⟩
  | coe r => exact ⟨min 127 (max (-127) r), by rw [EReal.coe_strictMono.monotone.map_min, EReal.coe_strictMono.monotone.map_max], le_min (by norm_num) (le_max_left _ _), min_le_left _ _⟩

/-- A real in [-127, 127] rounds to an integer in [-127, 127]. -/
theorem round_int {r : ℝ} (h₁ : -127 ≤ r) (h₂ : r ≤ 127) :
    ∃ n : ℤ, Ideal.roundHalfEven r = n ∧ -127 ≤ n ∧ n ≤ 127 := by
  have hf₁ : (-127 : ℤ) ≤ ⌊r⌋ := Int.le_floor.mpr (by exact_mod_cast h₁)
  have hf₂ : ⌊r⌋ ≤ 127 := by
    have : (⌊r⌋ : ℝ) ≤ 127 := (Int.floor_le r).trans h₂
    exact_mod_cast this
  have hs : ∀ h : ¬ r - ⌊r⌋ < 1 / 2, ⌊r⌋ + 1 ≤ 127 := fun h => by
    by_contra hc
    have e : ⌊r⌋ = 127 := by omega
    rw [e] at h
    push_cast at h
    linarith
  unfold Ideal.roundHalfEven
  dsimp only
  split_ifs with ha hb hc
  · exact ⟨⌊r⌋, by push_cast; rfl, hf₁, hf₂⟩
  · exact ⟨⌊r⌋ + 1, by push_cast; rfl, by omega, hs ha⟩
  · exact ⟨⌊r⌋, by push_cast; rfl, hf₁, hf₂⟩
  · exact ⟨⌊r⌋ + 1, by push_cast; rfl, by omega, hs ha⟩

/-- Such an integer converts to itself, at 8 bits -/
theorem to8 {n : ℤ} (h₁ : -127 ≤ n) (h₂ : n ≤ 127) : (Ideal.fptosi 8 ((n : ℝ) : EReal)).toInt = n := by
  rw [Ideal.fptosi, Ideal.toIntClamped_coe, Int.floor_intCast, Int.ceil_intCast, ite_self, BitVec.toInt_ofInt]
  norm_num
  rw [Int.bmod_def]
  split_ifs <;> omega
/-- and at 32. -/
theorem to32 {n : ℤ} (h₁ : -127 ≤ n) (h₂ : n ≤ 127) : (Ideal.fptosi 32 ((n : ℝ) : EReal)).toInt = n := by
  rw [Ideal.fptosi, Ideal.toIntClamped_coe, Int.floor_intCast, Int.ceil_intCast, ite_self, BitVec.toInt_ofInt]
  norm_num
  rw [Int.bmod_def]
  split_ifs <;> omega

/-! ## The value a partner's element is read as -/

/-- A value through the int8 exchange: its code, over the step. -/
def quant (x : EReal) : EReal :=
  (((Ideal.fptosi 8 (Ideal.liftRound Ideal.roundHalfEven (min (Ideal.ofBits FTy.f32 1123942400#32)
    (max (Ideal.ofBits FTy.f32 3271426048#32) (x * Ideal.ofBits FTy.f32 1107296256#32))))).toInt : ℝ) : EReal)
    * Ideal.ofBits FTy.f32 1023410176#32

/-- The reference's spelling of the same. -/
theorem quant_ref (x : EReal) :
    (((Ideal.fptosi 32 (Ideal.liftRound Ideal.roundHalfEven (min (Ideal.ofBits FTy.f32 1123942400#32)
      (max (Ideal.ofBits FTy.f32 3271426048#32) (Ideal.div x (Ideal.ofBits FTy.f32 1023410176#32)))))).toInt : ℝ) : EReal)
      * Ideal.ofBits FTy.f32 1023410176#32 = quant x := by
  have hd : Ideal.div x (Ideal.ofBits FTy.f32 1023410176#32) = x * Ideal.ofBits FTy.f32 1107296256#32 := by
    rw [word_step, Ideal.div_coe (by norm_num), word_32]
    norm_num
  rw [hd]
  unfold quant
  congr 3
  rw [word_hi, word_lo]
  obtain ⟨r, hr, h₁, h₂⟩ := clip_real (x * Ideal.ofBits FTy.f32 1107296256#32)
  obtain ⟨n, hn, h₁, h₂⟩ := round_int h₁ h₂
  have he : Ideal.liftRound Ideal.roundHalfEven (r : EReal) = ((n : ℝ) : EReal) := by
    rw [← hn]; rfl
  rw [hr, he, to8 h₁ h₂, to32 h₁ h₂]

end Cert.Swap

end
-- ==== Proof.Value.lean ====
/-
  What the eight devices end with, as the reference's result: each row of a device's result is the normalised row of its
  own partial, its partner's partial through the int8 exchange and the residual; the same rows, block by block, are the
  reference's.
-/
module

public import proofs.«01_k».proof.Proof.Quant
public import Idealize.ShloMosaic.Lib.Layout
public import Idealize.ShloMosaic.Lib.WritesUnit
public import Idealize.ShloMosaic.Lib.ValueLayout

@[expose] public section

noncomputable section

namespace Cert.Swap

open Cert.KernelIdeal Cert.KernelIdeal.Gen
open Idealize.ShloMosaic Idealize.ShloMosaic.TcCoe

/-- Entry `q` of a row normalised by its root mean square and scaled. -/
def normed (y g : Fin 512 → EReal) (q : Fin 512) : EReal :=
  Ideal.div (y q) (Ideal.sqrt (Ideal.div (∑ k, y k * y k) (Ideal.ofBits FTy.f32 1140850688#32) + Ideal.ofBits FTy.f32 897988541#32)) * g q

/-! ## The kernel's halves -/

/-- An entry of the first half, from its operands. -/
theorem half_top (x w z : Vec Ideal S256x512 .f32) (g : Vec Ideal S1x512 .f32) (a : Fin 256) (q : Fin 512) :
    k0_pay4 (k0_pay3 x (k0_pay1 w) z g) (ix2 a q)
      = normed (fun k => x (ix2 a k) + quant (w (ix2 a k)) + z (ix2 a k)) (fun k => g (ix2 0 k)) q := by
  pointwise [k0_pay4, k0_pay3, k0_pay1]
  rfl

/-- An entry of the second. -/
theorem half_bot (x w z : Vec Ideal S256x512 .f32) (g : Vec Ideal S1x512 .f32) (a : Fin 256) (q : Fin 512) :
    k0_pay7 (k0_pay5 x (k0_pay2 w) z) (k0_pay6 x (k0_pay2 w) z) g (ix2 a q)
      = normed (fun k => x (ix2 a k) + quant (w (ix2 a k)) + z (ix2 a k)) (fun k => g (ix2 0 k)) q := by
  pointwise [k0_pay7, k0_pay6, k0_pay5, k0_pay2]
  rfl

/-! ## The operands, read at an index -/

section Reads

variable (m : (ℓ : Loc nD τ sig) → Buf (Elt Ideal) ℓ)

/-- A device's partial at a row and column, its residual, its scale. -/
def part (c : Dev nD) (r k : Fin 512) : EReal := m ((c : Thread nD τ).loc main_arg0) (ix3 0 r k)
def resid (c : Dev nD) (r k : Fin 512) : EReal := m ((c : Thread nD τ).loc main_arg1) (ix2 r k)
def scale (c : Dev nD) (k : Fin 512) : EReal := m ((c : Thread nD τ).loc main_arg2) (ix2 0 k)

/-- A row of the first half, and of the second, among the 512. -/
def low (a : Fin 256) : Fin 512 := ⟨a.val, by omega⟩
def high (a : Fin 256) : Fin 512 := ⟨256 + a.val, by omega⟩

theorem xTop_apply (c : Dev nD) (a : Fin 256) (k : Fin 512) : xTop m c (ix2 a k) = part m c (low a) k := by
  have e := ValueIdx.reshapeEquiv_ix2_1ab (squeezes_S1x256x512_S256x512.numel_eq) a k
  refine congrArg (m ((c : Thread nD τ).loc main_arg0)) ?_
  refine (congrArg (Rect.unit (s := S1x512x512) ![0, 0, 0] S1x256x512.size inb_S1x512x512_S1x256x512_0_0_0).emb e).trans (funext fun b => Fin.ext ?_)
  match b with
  | ⟨0, _⟩ => rfl
  | ⟨1, _⟩ => show 0 + 1 * a.val = a.val; omega
  | ⟨2, _⟩ => show 0 + 1 * k.val = k.val; omega

theorem xBot_apply (c : Dev nD) (a : Fin 256) (k : Fin 512) : xBot m c (ix2 a k) = part m c (high a) k := by
  have e := ValueIdx.reshapeEquiv_ix2_1ab (squeezes_S1x256x512_S256x512.numel_eq) a k
  refine congrArg (m ((c : Thread nD τ).loc main_arg0)) ?_
  refine (congrArg (Rect.unit (s := S1x512x512) ![0, 256, 0] S1x256x512.size inb_S1x512x512_S1x256x512_0_256_0).emb e).trans (funext fun b => Fin.ext ?_)
  match b with
  | ⟨0, _⟩ => rfl
  | ⟨1, _⟩ => show 256 + 1 * a.val = 256 + a.val; omega
  | ⟨2, _⟩ => show 0 + 1 * k.val = k.val; omega

theorem resT_apply (c : Dev nD) (a : Fin 256) (k : Fin 512) : resT m c (ix2 a k) = resid m c (low a) k := by
  refine congrArg (m ((c : Thread nD τ).loc main_arg1)) (funext fun b => Fin.ext ?_)
  match b with
  | ⟨0, _⟩ => show 0 + 1 * a.val = a.val; omega
  | ⟨1, _⟩ => show 0 + 1 * k.val = k.val; omega

theorem resB_apply (c : Dev nD) (a : Fin 256) (k : Fin 512) : resB m c (ix2 a k) = resid m c (high a) k := by
  refine congrArg (m ((c : Thread nD τ).loc main_arg1)) (funext fun b => Fin.ext ?_)
  match b with
  | ⟨0, _⟩ => show 256 + 1 * a.val = 256 + a.val; omega
  | ⟨1, _⟩ => show 0 + 1 * k.val = k.val; omega

theorem gam_apply (c : Dev nD) (k : Fin 512) : gam m c (ix2 0 k) = scale m c k := rfl

/-- Row `r` of what a device normalises. -/
def row (c : Dev nD) (r k : Fin 512) : EReal := part m c r k + quant (part m (peer c) r k) + resid m c r k

theorem outT_apply (c : Dev nD) (a : Fin 256) (q : Fin 512) : outT m c (ix2 a q) = normed (row m c (low a)) (scale m c) q := by
  refine (half_top _ _ _ _ a q).trans ?_
  simp only [xTop_apply, resT_apply, gam_apply]
  rfl

theorem outB_apply (c : Dev nD) (a : Fin 256) (q : Fin 512) : outB m c (ix2 a q) = normed (row m c (high a)) (scale m c) q := by
  refine (half_bot _ _ _ _ a q).trans ?_
  simp only [xBot_apply, resB_apply, gam_apply]
  rfl

/-- The result array's two stores, read at an entry. -/
theorem stores_top (f : (main_v1 : Ref sig .tc).ty.Contents (Elt Ideal)) (u v : Vec Ideal S256x512 .f32) (r q : Fin 512) (h : r.val < 256) :
    (View.whole main_v1).read (Elt Ideal) ((View.whole main_v1).writes (Elt Ideal) f [⟨botR, v⟩, ⟨topR, u⟩]) (ix2 r q)
      = u (ix2 ⟨r.val, h⟩ q) :=
  (View.read_writes_cons_rows_of_not_mem (o := 256) (W := 256) (View.whole main_v1) f inb_S512x512_S256x512_256_0 v [⟨topR, u⟩]
      (ix2 r q) rfl rfl (Or.inl h)).trans
    (View.read_writes_cons_rows_of_mem (o := 0) (View.whole main_v1) f inb_S512x512_S256x512_0_0 u [] (ix2 r q)
      (ix2 (⟨r.val, h⟩ : Fin 256) q) rfl (Nat.zero_add _).symm rfl)

theorem stores_bot (f : (main_v1 : Ref sig .tc).ty.Contents (Elt Ideal)) (u v : Vec Ideal S256x512 .f32) (a : Fin 256) (q : Fin 512) :
    (View.whole main_v1).read (Elt Ideal) ((View.whole main_v1).writes (Elt Ideal) f [⟨botR, v⟩, ⟨topR, u⟩]) (ix2 (high a) q)
      = v (ix2 a q) :=
  View.read_writes_cons_rows_of_mem (o := 256) (View.whole main_v1) f inb_S512x512_S256x512_256_0 v [⟨topR, u⟩] (ix2 (high a) q)
    (ix2 a q) rfl rfl rfl

/-- A device's result, entry by entry. -/
theorem outAt_apply (c : Dev nD) (r q : Fin 512) : outAt m c (ix2 r q) = normed (row m c r) (scale m c) q := by
  have e : outAt m c = (View.whole main_v1).read (Elt Ideal) ((View.whole main_v1).writes (Elt Ideal) (m ((c : Thread nD τ).loc main_v1))
      [⟨botR, outB m c⟩, ⟨topR, outT m c⟩]) := (View.read_whole main_v1 (outAt m c)).symm
  rw [e]
  by_cases h : r.val < 256
  · exact (stores_top (m ((c : Thread nD τ).loc main_v1)) (outT m c) (outB m c) r q h).trans (outT_apply m c ⟨r.val, h⟩ q)
  · obtain ⟨a, rfl⟩ : ∃ a, high a = r := ⟨⟨r.val - 256, by omega⟩, Fin.ext (show 256 + (r.val - 256) = r.val by omega)⟩
    exact (stores_bot (m ((c : Thread nD τ).loc main_v1)) (outT m c) (outB m c) a q).trans (outB_apply m c a q)

end Reads

/-! ## The reference -/

section Reference

variable (m' : (ℓ : Loc ReferenceIdeal.nD ReferenceIdeal.τ ReferenceIdeal.sig) → Buf (Elt Ideal) ℓ)

/-- The reference's partials, residual and scale. -/
def partW (d : Fin 2) (r k : Fin 512) : EReal := m' ((0 : Dev ReferenceIdeal.nD).tc.loc ReferenceIdeal.main_arg0) (ix3 d r k)
def residW (r k : Fin 512) : EReal := m' ((0 : Dev ReferenceIdeal.nD).tc.loc ReferenceIdeal.main_arg1) (ix2 r k)
def scaleW (k : Fin 512) : EReal := m' ((0 : Dev ReferenceIdeal.nD).tc.loc ReferenceIdeal.main_arg2) (ix2 0 k)

/-- Row `r` of partial `d`'s sum. -/
def rowW (d : Fin 2) (r k : Fin 512) : EReal := partW m' d r k + quant (partW m' (1 - d) r k) + residW m' r k

/-- Row `r` of block `d`. -/
def inBlock (d : Fin 2) (r : Fin 512) : Fin 1024 := ⟨d.val * 512 + r.val, by omega⟩

theorem ref_apply (d : Fin 2) (r q : Fin 512) :
    ReferenceIdeal.Value.res_out0 m' 0 (ix2 (inBlock d r) q) = normed (rowW m' d r) (scaleW m') q := by
  have hm : (inBlock d r).val % 512 = r.val := by show (d.val * 512 + r.val) % 512 = r.val; omega
  have hd : (inBlock d r).val / 512 = d.val := by show (d.val * 512 + r.val) / 512 = d.val; omega
  pointwise [ReferenceIdeal.Value.res_out0, ReferenceIdeal.Value.res_main_v36]
  simp only [hm, hd]
  fin_cases d
  · simp only [← quant_ref, normed, rowW]
    rfl
  · simp only [← quant_ref, normed, rowW]
    rfl

end Reference

/-! ## The two, block by block -/

section Blocks

variable (m : (ℓ : Loc nD τ sig) → Buf (Elt Ideal) ℓ)
  (m' : (ℓ : Loc ReferenceIdeal.nD ReferenceIdeal.τ ReferenceIdeal.sig) → Buf (Elt Ideal) ℓ)

/-- The block a device holds: its coordinate on the mesh's first axis. -/
def blk (c : Dev nD) : Fin 2 := ⟨c.val / 4, by have := c.isLt; revert this; generalize c.val = v; decide +revert⟩

theorem blk_peer (c : Dev nD) : blk (peer c) = 1 - blk c := by revert c; decide

/-- The devices' arrays are their parts of the reference's. -/
def Parts : Prop := ∀ c : Dev nD,
  m ((c.tc : Thread nD τ).loc main_arg0) = Layout.blockN ⟨3, ![1, 512, 512]⟩ ⟨3, ![2, 512, 512]⟩ (Layout.meshBlock [2, 2, 2] ![[0], [], []] c)
      (m' (((0 : Dev ReferenceIdeal.nD).tc : Thread ReferenceIdeal.nD ReferenceIdeal.τ).loc ReferenceIdeal.main_arg0))
  ∧ m ((c.tc : Thread nD τ).loc main_arg1) = m' (((0 : Dev ReferenceIdeal.nD).tc : Thread ReferenceIdeal.nD ReferenceIdeal.τ).loc ReferenceIdeal.main_arg1)
  ∧ m ((c.tc : Thread nD τ).loc main_arg2) = m' (((0 : Dev ReferenceIdeal.nD).tc : Thread ReferenceIdeal.nD ReferenceIdeal.τ).loc ReferenceIdeal.main_arg2)

theorem lin (c : Dev nD) : Layout.meshLin [2, 2, 2] c.val [0] = (blk c).val := by revert c; decide

variable {m m'} (h : Parts m m')
include h

theorem part_eq (c : Dev nD) (r k : Fin 512) : part m c r k = partW m' (blk c) r k := by
  refine (congrFun (h c).1 (ix3 0 r k)).trans ?_
  rw [Layout.blockN_apply]
  refine congrArg (m' ((0 : Dev ReferenceIdeal.nD).tc.loc ReferenceIdeal.main_arg0)) (funext fun b => Fin.ext ?_)
  rw [Layout.TilesN.idx_val]
  match b with
  | ⟨0, _⟩ => show Layout.meshLin [2, 2, 2] c.val [0] * 1 + 0 = (blk c).val; rw [lin c]; omega
  | ⟨1, _⟩ => show 0 * 512 + r.val = r.val; omega
  | ⟨2, _⟩ => show 0 * 512 + k.val = k.val; omega

theorem row_eq (c : Dev nD) (r : Fin 512) : row m c r = rowW m' (blk c) r := funext fun k => by
  rw [row, rowW, part_eq h, part_eq h, blk_peer]
  exact congrArg (partW m' (blk c) r k + quant (partW m' (1 - blk c) r k) + ·) (congrFun (h c).2.1 (ix2 r k))

theorem scale_eq (c : Dev nD) : scale m c = scaleW m' := funext fun k => congrFun (h c).2.2 (ix2 0 k)

/-- Each device's result is its block of the reference's. -/
theorem out_eq (c : Dev nD) :
    outAt m c = Layout.blockN ⟨2, ![512, 512]⟩ ⟨2, ![1024, 512]⟩ (Layout.meshBlock [2, 2, 2] ![[0], []] c) (ReferenceIdeal.Value.res_out0 m' 0) := by
  funext i
  obtain ⟨r, q, rfl⟩ : ∃ (r q : Fin 512), ix2 r q = i := ⟨i 0, i 1, funext fun b => match b with | ⟨0, _⟩ => rfl | ⟨1, _⟩ => rfl⟩
  refine (outAt_apply m c r q).trans ?_
  rw [row_eq h, scale_eq h, ← ref_apply, Layout.blockN_apply]
  refine congrArg (ReferenceIdeal.Value.res_out0 m' 0) (funext fun b => Fin.ext ?_)
  rw [Layout.TilesN.idx_val]
  match b with
  | ⟨0, _⟩ => show (blk c).val * 512 + r.val = Layout.meshLin [2, 2, 2] c.val [0] * 512 + r.val; rw [lin c]
  | ⟨1, _⟩ => show q.val = 0 * 512 + q.val; omega

end Blocks

end Cert.Swap

end
-- ==== Proof.lean ====
/-
  The proof of `Cert.Claim` (proofs.«01_k».proof.Defs). Proof/Launch.lean runs the kernel on its eight devices at any float
  values, with every counter back at zero; Proof/Value.lean reads each device's result as its block of the reference's. The
  printed program and its idealisation are one text, read at `Bits` and at `Ideal`, so one run serves both.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel runs, its arguments unchanged and every counter at zero, -/
theorem frame_k : Cert.quiescent_Kernel (hKernel := Cert.Kernel.Gen.facts) := fun m ρ _ =>
  (θ_run Cert.KernelIdeal.defs _ _).mono (fun _ h => ⟨fun c => ⟨(h.1 c).1, (h.1 c).2.1, (h.1 c).2.2.1⟩, h.2⟩)
    (Cert.Swap.run_main (F := Bits) m ρ)

/-- as does its idealisation, -/
theorem frame_i : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1⟩, h.2⟩)
    (Cert.Swap.run_main (F := Ideal) m ρ)

/-- and the reference, which declares no semaphore. -/
theorem frame_r : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is its block of the reference's. -/
theorem value : Cert.algebraic_KernelIdeal_ReferenceIdeal (hKernelIdeal := Cert.KernelIdeal.Gen.facts)
    (hReferenceIdeal := Cert.ReferenceIdeal.Gen.facts) := fun m g m' g' _ h =>
  ⟨Cert.ReferenceIdeal.Value.res_out0 m' 0,
    (θ_run Cert.KernelIdeal.defs _ _).mono
      (fun _ r c => ⟨(r.1 c).2.2.2.1.trans (Cert.Swap.out_eq (m := m) (m' := m') h c), (r.1 c).1, (r.1 c).2.1, (r.1 c).2.2.1⟩)
      (Cert.Swap.run_main (F := Ideal) m g),
    (θ_run Cert.ReferenceIdeal.defs _ _).mono (fun _ r => r 0) (Cert.ReferenceIdeal.Value.run (F := Ideal) m' g')⟩

theorem claim : Cert.Claim := ⟨Cert.Kernel.Gen.facts, Cert.KernelIdeal.Gen.facts, Cert.ReferenceIdeal.Gen.facts,
  frame_k, frame_i, frame_r, trivial, value⟩

end Cert.Proof

end
